-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gap [hPre_gap : Cert.Pre_gap.Facts] (m : (ℓ : Loc Cert.KernelIdeal.nD Cert.KernelIdeal.τ Cert.KernelIdeal.sig) → Buf (Elt Ideal) ℓ) : Prop :=
  ∀ c : Dev Cert.KernelIdeal.nD,
    (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gap [hPre_gap : Cert.Pre_gap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gap [hKernelIdeal : Cert.KernelIdeal.Facts] [hPre_gap : Cert.Pre_gap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gap [hReferenceIdeal : Cert.ReferenceIdeal.Facts] [hPre_gap : Cert.Pre_gap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gap [hKernelIdeal : Cert.KernelIdeal.Facts] [hReferenceIdeal : Cert.ReferenceIdeal.Facts] [hPre_gap : Cert.Pre_gap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gap : Cert.Pre_gap.Facts),
    quiescent_Kernel (hKernel := hKernel)
    ∧ quiescent_KernelIdeal (hKernelIdeal := hKernelIdeal)
    ∧ quiescent_KernelIdeal_pre_gap (hKernelIdeal := hKernelIdeal) (hPre_gap := hPre_gap)
    ∧ quiescent_ReferenceIdeal (hReferenceIdeal := hReferenceIdeal)
    ∧ quiescent_ReferenceIdeal_pre_gap (hReferenceIdeal := hReferenceIdeal) (hPre_gap := hPre_gap)
    ∧ preserves_Kernel_KernelIdeal
    ∧ algebraic_KernelIdeal_ReferenceIdeal_pre_gap (hKernelIdeal := hKernelIdeal) (hReferenceIdeal := hReferenceIdeal) (hPre_gap := hPre_gap)
-- ==== Pre_gap.lean ====
abbrev S4096x1024 : Shape := ⟨2, ![4096, 1024]⟩
abbrev S16384x1024 : Shape := ⟨2, ![16384, 1024]⟩
abbrev S16384 : Shape := ⟨1, ![16384]⟩
abbrev S1024x16384 : Shape := ⟨2, ![1024, 16384]⟩
abbrev S1024 : Shape := ⟨1, ![1024]⟩
abbrev S4096x16384 : Shape := ⟨2, ![4096, 16384]⟩
abbrev S1x16384 : Shape := ⟨2, ![1, 16384]⟩
abbrev S4096x33 : Shape := ⟨2, ![4096, 33]⟩
abbrev S_ : Shape := ⟨0, ![]⟩
abbrev S4096 : Shape := ⟨1, ![4096]⟩
abbrev S4096x1 : Shape := ⟨2, ![4096, 1]⟩

class Facts : Prop where
  transposes_S16384x1024_S1024x16384_1_0 : S16384x1024.Transposes [1, 0] S1024x16384
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  sliceFits_S4096x16384_S4096x33 : S4096x16384.Slices (fun _ => 0) S4096x33
  reducesTo_S4096x16384_S4096_d1 : S4096x16384.ReducesTo [1] S4096
  h_S_ : 0 < S_.numel
  bcast_S_S4096 : S_.BroadcastsInDim S4096 (![] : Fin 0 → Fin S4096.rank)
  slices_S4096x33_S4096x1_0_31 : S4096x33.Slices ![0, 31] S4096x1
  shapeCasts_S4096x1_S4096 : S4096x1.ShapeCasts S4096
  slices_S4096x33_S4096x1_0_32 : S4096x33.Slices ![0, 32] S4096x1
  reducesTo_S4096_S_d0 : S4096.ReducesTo [0] S_
  dot_S4096x1024_S1024x16384_S4096x16384_1_0_0_1_n_n_wf : DotDims.WF S4096x1024 S1024x16384 S4096x16384 [1] [0] [0] [1] [] []

variable [Facts]

def dot_S4096x1024_S1024x16384_S4096x16384_1_0_0_1_n_n : DotDims S4096x1024 S1024x16384 S4096x16384 where
  lhsContracting := [1]
  rhsContracting := [0]
  lhsNonContracting := [0]
  rhsNonContracting := [1]
  lhsBatch := []
  rhsBatch := []
  wf := dot_S4096x1024_S1024x16384_S4096x16384_1_0_0_1_n_n_wf
def fn_part1 {F : FTy → Type} [FloatOps F] (main_v17 : IVec S4096 1) : IVec S_ 1 :=
  let main_c : IVec S_ 1 := constantI S_ 1 1#1
  let main_v18 : IVec S_ 1 := (fun x v => Host.reduce IntOp.andi x v reducesTo_S4096_S_d0 h_S_) main_v17 main_c
  main_v18

def fn {F : FTy → Type} [FloatOps F] (main_arg0 : FVec F S4096x1024 .f32) (main_arg1 : FVec F S16384x1024 .f32) (main_arg2 : FVec F S16384 .f32) (main_arg3 : FVec F S1024x16384 .f32) (main_arg4 : FVec F S1024 .f32) : IVec S_ 1 :=
  let main_v0 : FVec F S1024x16384 .f32 := (transpose S1024x16384 [1, 0] · transposes_S16384x1024_S1024x16384_1_0) main_arg1
  let main_v1 : FVec F S4096x16384 .f32 := (fun l r => Host.dotGeneral dot_S4096x1024_S1024x16384_S4096x16384_1_0_0_1_n_n none l r) main_arg0 main_v0
  let main_v2 : FVec F S1x16384 .f32 := broadcastInDim S1x16384 ![1] bcast_S16384_S1x16384_1 main_arg2
  let main_v3 : FVec F S4096x16384 .f32 := broadcastInDim S4096x16384 ![0, 1] bcast_S1x16384_S4096x16384_0_1 main_v2
  let main_v4 : FVec F S4096x16384 .f32 := addf main_v1 main_v3
  let main_values : FVec F S4096x33 .f32 := (fun x => (Host.topK S4096x33 1 (FloatOps.cmpfTotal .gt) x sliceFits_S4096x16384_S4096x33).1) main_v4
  let main_indices : IVec S4096x33 32 := (fun x => (Host.topK S4096x33 1 (FloatOps.cmpfTotal .gt) x sliceFits_S4096x16384_S4096x33).2) main_v4
  let main_cst : FVec F S_ .f32 := constant S_ .f32 0xFF800000#32
  let main_v5 : FVec F S4096 .f32 := (fun x v => Host.reduce FloatOps.maximumf x v reducesTo_S4096x16384_S4096_d1 h_S_) main_v4 main_cst
  let main_cst_0 : FVec F S_ .f32 := constant S_ .f32 0x7F800000#32
  let main_v6 : FVec F S4096 .f32 := (fun x v => Host.reduce FloatOps.minimumf x v reducesTo_S4096x16384_S4096_d1 h_S_) main_v4 main_cst_0
  let main_v7 : FVec F S4096 .f32 := subf main_v5 main_v6
  let main_cst_1 : FVec F S_ .f32 := constant S_ .f32 0x3F800000#32
  let main_v8 : FVec F S4096 .f32 := broadcastInDim S4096 ![] bcast_S_S4096 main_cst_1
  let main_v9 : FVec F S4096 .f32 := addf main_v7 main_v8
  let main_v10 : FVec F S4096x1 .f32 := (extractStridedSlice S4096x1 ![0, 31] · slices_S4096x33_S4096x1_0_31) main_values
  let main_v11 : FVec F S4096 .f32 := shapeCast S4096 main_v10 shapeCasts_S4096x1_S4096
  let main_v12 : FVec F S4096x1 .f32 := (extractStridedSlice S4096x1 ![0, 32] · slices_S4096x33_S4096x1_0_32) main_values
  let main_v13 : FVec F S4096 .f32 := shapeCast S4096 main_v12 shapeCasts_S4096x1_S4096
  let main_v14 : FVec F S4096 .f32 := subf main_v11 main_v13
  let main_cst_2 : FVec F S_ .f32 := constant S_ .f32 0x4C800000#32
  let main_v15 : FVec F S4096 .f32 := broadcastInDim S4096 ![] bcast_S_S4096 main_cst_2
  let main_v16 : FVec F S4096 .f32 := mulf main_v14 main_v15
  let main_v17 : IVec S4096 1 := cmpf .ogt main_v16 main_v9
  fn_part1 (F := F) main_v17
-- ==== Kernel.lean ====
abbrev S4096x1024 : Shape := ⟨2, ![4096, 1024]⟩
abbrev S16384x1024 : Shape := ⟨2, ![16384, 1024]⟩
abbrev S16384 : Shape := ⟨1, ![16384]⟩
abbrev S1024x16384 : Shape := ⟨2, ![1024, 16384]⟩
abbrev S1024 : Shape := ⟨1, ![1024]⟩
abbrev S4096x16384 : Shape := ⟨2, ![4096, 16384]⟩
abbrev S512x1024 : Shape := ⟨2, ![512, 1024]⟩
abbrev S1024x1024 : Shape := ⟨2, ![1024, 1024]⟩
abbrev S1x1024 : Shape := ⟨2, ![1, 1024]⟩
abbrev S128x16384 : Shape := ⟨2, ![128, 16384]⟩
abbrev S128x1 : Shape := ⟨2, ![128, 1]⟩
abbrev S128x128 : Shape := ⟨2, ![128, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S256x4096 : Shape := ⟨2, ![256, 4096]⟩
abbrev S1024x4096 : Shape := ⟨2, ![1024, 4096]⟩
abbrev S256x1024 : Shape := ⟨2, ![256, 1024]⟩
abbrev S16x256x1024 : Shape := ⟨3, ![16, 256, 1024]⟩
abbrev S1x256x1024 : Shape := ⟨3, ![1, 256, 1024]⟩

abbrev nBuf : Space → Nat
  | .hbm => 12
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S16384, .f32⟩
  | .hbm, ⟨3, _⟩ => ⟨S1024x16384, .f32⟩
  | .hbm, ⟨4, _⟩ => ⟨S1024, .f32⟩
  | .hbm, ⟨5, _⟩ => ⟨S4096x1024, .bf16⟩
  | .hbm, ⟨6, _⟩ => ⟨S16384x1024, .bf16⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S1024x16384, .bf16⟩
  | .hbm, ⟨11, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S128x16384, .f32⟩
  | .local _ .vmem, ⟨9, _⟩ => ⟨S128x16384, .f32⟩
  | .local _ .vmem, ⟨10, _⟩ => ⟨S128x16384, .f32⟩
  | .local _ .vmem, ⟨11, _⟩ => ⟨S128x16384, .f32⟩
  | .local _ .vmem, ⟨12, _⟩ => ⟨S128x16384, .f32⟩
  | .local _ .vmem, ⟨13, _⟩ => ⟨S128x16384, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S256x4096, .f32⟩
  | .local _ .vmem, ⟨18, _⟩ => ⟨S256x4096, .f32⟩
  | .local _ .vmem, ⟨19, _⟩ => ⟨S1024x4096, .bf16⟩
  | .local _ .vmem, ⟨20, _⟩ => ⟨S1024x4096, .bf16⟩
  | .local _ .vmem, ⟨21, _⟩ => ⟨S1024, .f32⟩
  | .local _ .vmem, ⟨22, _⟩ => ⟨S256x1024, .f32⟩
  | .local _ .vmem, ⟨23, _⟩ => ⟨S256x1024, .f32⟩
  | .local _ .vmem, ⟨24, _⟩ => ⟨S16x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

@[reducible] def k1_t1_loop : Scf.Loop 32 :=
  let c0_i32 : BitVec 32 := 0#32
  let c24_i32 : BitVec 32 := 24#32
  let v393 : BitVec 32 := Scalar.addi c0_i32 c24_i32
  let c1_i32 : BitVec 32 := 1#32
  ⟨c0_i32, v393, c1_i32⟩
@[reducible] def k1_t2_loop : Scf.Loop 32 :=
  let c0_i32_138 : BitVec 32 := 0#32
  let c26_i32 : BitVec 32 := 26#32
  let v405 : BitVec 32 := Scalar.addi c0_i32_138 c26_i32
  let c1_i32_139 : BitVec 32 := 1#32
  ⟨c0_i32_138, v405, c1_i32_139⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 16], ![false, false]⟩

def k2_cond1 (i : grid2.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k2_off1 (i : grid2.Coords) : Fin 3 → Nat :=
  let arg1 : BitVec 32 := BitVec.ofNat 32 (i 1).val
  let v15 : Index := Scalar.indexCast arg1
  let c0_7 : Index := 0#32
  let c0_8 : Index := 0#32
  ![v15.toNat, 0, 0]
def k2_cond2 (i : grid2.Coords) : BitVec 1 :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .ne v10 c0_i32_5
  v11

def k2_off2 (i : grid2.Coords) : Fin 3 → Nat :=
  let arg1 : BitVec 32 := BitVec.ofNat 32 (i 1).val
  let v15 : Index := Scalar.indexCast arg1
  let c0_7 : Index := 0#32
  let c0_8 : Index := 0#32
  ![v15.toNat, 0, 0]
def k2_cond3 (i : grid2.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_6 : BitVec 32 := 0#32
  let v14 : BitVec 1 := Scalar.cmpi .ne v13 c0_i32_6
  v14

def k2_off3 (i : grid2.Coords) : Fin 3 → Nat :=
  let arg1 : BitVec 32 := BitVec.ofNat 32 (i 1).val
  let v15 : Index := Scalar.indexCast arg1
  let c0_7 : Index := 0#32
  let c0_8 : Index := 0#32
  ![v15.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]
-- ==== ReferenceIdeal.lean ====
abbrev S4096x1024 : Shape := ⟨2, ![4096, 1024]⟩
abbrev S16384x1024 : Shape := ⟨2, ![16384, 1024]⟩
abbrev S16384 : Shape := ⟨1, ![16384]⟩
abbrev S1024x16384 : Shape := ⟨2, ![1024, 16384]⟩
abbrev S1024 : Shape := ⟨1, ![1024]⟩
abbrev S4096x16384 : Shape := ⟨2, ![4096, 16384]⟩
abbrev S1x16384 : Shape := ⟨2, ![1, 16384]⟩
abbrev S4096x32 : Shape := ⟨2, ![4096, 32]⟩
abbrev S4096 : Shape := ⟨1, ![4096]⟩
abbrev S4096x1 : Shape := ⟨2, ![4096, 1]⟩
abbrev S_ : Shape := ⟨0, ![]⟩
abbrev S4096x32x1 : Shape := ⟨3, ![4096, 32, 1]⟩
abbrev S4096x32x2 : Shape := ⟨3, ![4096, 32, 2]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S16384, .f32⟩
  | .hbm, ⟨3, _⟩ => ⟨S1024x16384, .f32⟩
  | .hbm, ⟨4, _⟩ => ⟨S1024, .f32⟩
  | .hbm, ⟨5, _⟩ => ⟨S1024x16384, .f32⟩
  | .hbm, ⟨6, _⟩ => ⟨S4096x16384, .f32⟩
  | .hbm, ⟨7, _⟩ => ⟨S1x16384, .f32⟩
  | .hbm, ⟨8, _⟩ => ⟨S4096x16384, .f32⟩
  | .hbm, ⟨9, _⟩ => ⟨S4096x16384, .f32⟩
  | .hbm, ⟨10, _⟩ => ⟨S4096x32, .f32⟩
  | .hbm, ⟨11, _⟩ => ⟨S4096x32, .i32⟩
  | .hbm, ⟨12, _⟩ => ⟨S4096, .i32⟩
  | .hbm, ⟨13, _⟩ => ⟨S4096x1, .i32⟩
  | .hbm, ⟨14, _⟩ => ⟨S_, .f32⟩
  | .hbm, ⟨15, _⟩ => ⟨S4096x16384, .f32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S4096x32, .i32⟩
  | .hbm, ⟨25, _⟩ => ⟨S4096x32, .i1⟩
  | .hbm, ⟨26, _⟩ => ⟨S_, .i32⟩
  | .hbm, ⟨27, _⟩ => ⟨S4096x32, .i32⟩
  | .hbm, ⟨28, _⟩ => ⟨S4096x32, .i32⟩
  | .hbm, ⟨29, _⟩ => ⟨S4096x32, .i32⟩
  | .hbm, ⟨30, _⟩ => ⟨S4096x32, .i32⟩
  | .hbm, ⟨31, _⟩ => ⟨S4096x32x1, .i32⟩
  | .hbm, ⟨32, _⟩ => ⟨S4096x32x1, .i32⟩
  | .hbm, ⟨33, _⟩ => ⟨S4096x32x2, .i32⟩
  | .hbm, ⟨34, _⟩ => ⟨S_, .f32⟩
  | .hbm, ⟨35, _⟩ => ⟨S4096x32, .f32⟩
  | .hbm, ⟨36, _⟩ => ⟨S4096x16384, .f32⟩
  | .hbm, ⟨37, _⟩ => ⟨S4096x16384, .f32⟩
  | .hbm, ⟨38, _⟩ => ⟨S_, .f32⟩
  | .hbm, ⟨39, _⟩ => ⟨S4096x16384, .f32⟩
  | .hbm, ⟨40, _⟩ => ⟨S4096x16384, .f32⟩
  | .hbm, ⟨41, _⟩ => ⟨S16384x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.EncBlock.lean ====
/- The encoder's launch: what one grid point stores, and the pipeline's proof data over the arrays it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Enc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The whole rectangles of the four staging buffers' shapes. -/
abbrev rx : Rect S512x1024 := Rect.unit (s := S512x1024) ![0, 0] S512x1024.size inb_S512x1024_S512x1024_0_0
abbrev rw : Rect S1024x1024 := Rect.unit (s := S1024x1024) ![0, 0] S1024x1024.size inb_S1024x1024_S1024x1024_0_0
abbrev rb : Rect S1024 := Rect.unit (s := S1024) ![0] S1024.size inb_S1024_S1024_0

/-- The block of pre-activations one grid point stores, from its blocks of `x`, `W_e` and `b_e`. -/
def hBlock (x : Vec F S512x1024 .bf16) (w : Vec F S1024x1024 .bf16) (b : Vec F S1024 .f32) : Vec F S512x1024 .f32 :=
  View.canon [⟨rx, k0_pay1 (View.ld x rx) (View.ld w rw) (View.ld b rb)⟩]

set_option maxHeartbeats 1000000 in
/-- One call of the encoder's body: it leaves its inputs as they were and its output at `hBlock` of them. -/
theorem body_run (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S1024 .f32) (h4 : a4.IsWhole)
    (a5 : Memref sig .tc .vmem S512x1024 .f32) (h5 : a5.IsWhole)
    (x : Vec F S512x1024 .bf16) (w : Vec F S1024x1024 .bf16) (b : Vec F S1024 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (hBlock x w b)) -∗ K ⟨⟩))
      ⊢ wp frame (wpE (defs₀ (F := F)) Variants.none c none) Set.univ (cc0__enc_body i a2 h2 a3 h3 a4 h4 a5 h5) K := by
  simp only [cc0__enc_body_eq_skeleton]; unfold cc0__enc_body_skel
  unfold owns
  iintro ⟨⟨%fx, %ex, Hx⟩, ⟨%fw, %ew, Hw⟩, ⟨%fb, %eb, Hb⟩, ⟨%d, %fo, -, Ho⟩, Hk⟩
  subst ex ew eb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ fun y => View.cover_of_tiled [⟨rx, _⟩] S512x1024.size (by rfl) y

variable (V : Dev nD → Valuation τ sig (Elt F))

/-- Window `w`'s block of its array at point `t`. -/
def blkOf (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The encoder's proof data: inputs' buffers keep their blocks, the output's holds `hBlock` of them. -/
def dat (c : Dev nD) : Dat τ (Elt F) Unit ℕ (UR sig nD τ) ℕ cfg0 c where
  A w := V c (Pipeline.arrRef spec0 w)
  after w t := match w with
    | ⟨0, _⟩ => blkOf V c 0 t
    | ⟨1, _⟩ => blkOf V c 1 t
    | ⟨2, _⟩ => blkOf V c 2 t
    | ⟨3, _⟩ => hBlock (blkOf V c 0 t) (blkOf V c 1 t) (blkOf V c 2 t)
  Φ _ := Pipeline.ΦA spec0 c
  q _ := fullShare
  owed _ := 0

/-- The data's arrays are those the region is entered with. -/
theorem A_eq (c : Dev nD) (w : Fin cfg0.W) : (dat V c).A w = V c (Pipeline.arrRef spec0 w) := by dsimp only [dat]

theorem after_0 (c : Dev nD) (t : Fin cfg0.N) : (dat V c).after 0 t = blkOf V c 0 t := by dsimp only [dat]
theorem after_1 (c : Dev nD) (t : Fin cfg0.N) : (dat V c).after 1 t = blkOf V c 1 t := by dsimp only [dat]
theorem after_2 (c : Dev nD) (t : Fin cfg0.N) : (dat V c).after 2 t = blkOf V c 2 t := by dsimp only [dat]
theorem after_3 (c : Dev nD) (t : Fin cfg0.N) :
    (dat V c).after 3 t = hBlock (blkOf V c 0 t) (blkOf V c 1 t) (blkOf V c 2 t) := by dsimp only [dat]

/-- Each input's staging buffer holds its block when the body is called. -/
theorem before_0 (c : Dev nD) (t : Fin cfg0.N) (d) : (dat V c).before 0 t d = blkOf V c 0 t :=
  ((dat V c).before_in_eq_fetched 0 rfl (fun _ => rfl) (fun _ _ _ => rfl)
    (fun t => by rw [after_0]; unfold Dat.blockOf blkOf; rw [A_eq]; try rfl) t d).trans
    (by unfold Dat.fetched Dat.blockOf blkOf; rw [A_eq]; try rfl)
theorem before_1 (c : Dev nD) (t : Fin cfg0.N) (d) : (dat V c).before 1 t d = blkOf V c 1 t :=
  ((dat V c).before_in_eq_fetched 1 rfl (fun _ => rfl) (fun _ _ _ => rfl)
    (fun t => by rw [after_1]; unfold Dat.blockOf blkOf; rw [A_eq]; try rfl) t d).trans
    (by unfold Dat.fetched Dat.blockOf blkOf; rw [A_eq]; try rfl)
theorem before_2 (c : Dev nD) (t : Fin cfg0.N) (d) : (dat V c).before 2 t d = blkOf V c 2 t :=
  ((dat V c).before_in_eq_fetched 2 rfl (fun _ => rfl) (fun _ _ _ => rfl)
    (fun t => by rw [after_2]; unfold Dat.blockOf blkOf; rw [A_eq]; try rfl) t d).trans
    (by unfold Dat.fetched Dat.blockOf blkOf; rw [A_eq]; try rfl)

/-- What the body is handed at point `t`, window by window, and what it hands back. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at point `t`, from what it is handed to what it returns. -/
theorem body_at (c : Dev nD) (t : Fin cfg0.N) :
    handed V c t ⊢ wp frame (wpE (defs₀ (F := F)) Variants.none c none) Set.univ (bodyAt0 t) (fun _ => returned V c t) := by
  unfold handed returned bodyAt0
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Hw, ⟨%d0, H0⟩, ⟨%d1, H1⟩, ⟨%d2, H2⟩, ⟨%d3, H3⟩⟩
  iapply (body_run c (grid0.coords t) _ _ _ _ _ _ _ _ (blkOf V c 0 t) (blkOf V c 1 t) (blkOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hw]; · iexact Hw
  isplitl [H0]; · iexact H0
  isplitl [H1]; · iexact H1
  isplitl [H2]; · iexact H2
  iexact H3

/-- The body obligation of the encoder's pipeline, at every point. -/
theorem obligation (c : Dev nD) : BodyObligation (dat V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at V c t) rfl .rfl fun _ => .rfl

end Cert.KernelIdeal.Enc

end
-- ==== Proof.SelSteps.lean ====
/- The selection launch: the vectors one block of rows goes through, as functions of the block. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Sel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The column vectors a block's chunks are reduced to, handed to `k` in the order the printed parts pass them. -/
def chunked {α : Type} (v0 : Vec F S128x16384 .f32)
    (k : FVec F S128x16384 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 → FVec F S128x1 .f32 → FVec F S128x1 .f32 →
      FVec F S128x1 .f32 → FVec F S128x1 .f32 → FVec F S128x1 .f32 →
      FVec F S128 .f32 → α) : α :=
  let v1 := k1_pay15 v0
  k
    v1 (k1_pay16 v0) (k1_pay17 v0) (k1_pay18 v0) (k1_pay19 v0) (k1_pay20 v0) (k1_pay21 v0) (k1_pay22 v0) (k1_pay23 v0)
    (k1_pay24 v0) (k1_pay25 v0) (k1_pay26 v0) (k1_pay27 v0) (k1_pay28 v0) (k1_pay30 (k1_pay29 v0)) (k1_pay31 v1)
    (k1_pay32 v1) (k1_pay33 v1) (k1_pay34 v1) (k1_pay35 v1) (k1_pay36 v1) (k1_pay37 v1) (k1_pay38 v1) (k1_pay39 v1)
    (k1_pay40 v1) (k1_pay41 v1) (k1_pay42 v1) (k1_pay43 v1) (k1_pay44 v1) (k1_pay46 (k1_pay45 v1)) (k1_pay47 v1)
    (k1_pay48 v1) (k1_pay49 v1) (k1_pay50 v1) (k1_pay51 v1) (k1_pay52 v1) (k1_pay53 v1) (k1_pay54 v1) (k1_pay55 v1)
    (k1_pay56 v1) (k1_pay57 v1) (k1_pay58 v1) (k1_pay59 v1) (k1_pay60 v1) (k1_pay62 (k1_pay61 v1)) (k1_pay63 v1)
    (k1_pay64 v1) (k1_pay65 v1) (k1_pay66 v1) (k1_pay67 v1) (k1_pay68 v1) (k1_pay69 v1) (k1_pay70 v1) (k1_pay71 v1)
    (k1_pay72 v1) (k1_pay73 v1) (k1_pay74 v1) (k1_pay75 v1) (k1_pay76 v1) (k1_pay78 (k1_pay77 v1)) (k1_pay79 v1)
    (k1_pay80 v1) (k1_pay81 v1) (k1_pay82 v1) (k1_pay83 v1) (k1_pay84 v1) (k1_pay85 v1) (k1_pay86 v1) (k1_pay87 v1)
    (k1_pay88 v1) (k1_pay89 v1) (k1_pay90 v1) (k1_pay91 v1) (k1_pay92 v1) (k1_pay94 (k1_pay93 v1)) (k1_pay95 v1)
    (k1_pay96 v1) (k1_pay97 v1) (k1_pay98 v1) (k1_pay99 v1) (k1_pay100 v1) (k1_pay101 v1) (k1_pay102 v1)
    (k1_pay103 v1) (k1_pay104 v1) (k1_pay105 v1) (k1_pay106 v1) (k1_pay107 v1) (k1_pay108 v1)
    (k1_pay110 (k1_pay109 v1)) (k1_pay111 v1) (k1_pay112 v1) (k1_pay113 v1) (k1_pay114 v1) (k1_pay115 v1)
    (k1_pay116 v1) (k1_pay117 v1) (k1_pay118 v1) (k1_pay119 v1) (k1_pay120 v1) (k1_pay121 v1) (k1_pay122 v1)
    (k1_pay123 v1) (k1_pay124 v1) (k1_pay126 (k1_pay125 v1)) (k1_pay127 v1) (k1_pay128 v1) (k1_pay129 v1)
    (k1_pay130 v1) (k1_pay131 v1) (k1_pay132 v1) (k1_pay133 v1) (k1_pay134 v1) (k1_pay135 v1) (k1_pay136 v1)
    (k1_pay137 v1) (k1_pay138 v1) (k1_pay139 v1) (k1_pay140 v1) (k1_pay141 v1)

/-- The 128 chunk maxima of every row of a block. -/
def chunkMax (v0 : Vec F S128x16384 .f32) : FVec F S128x128 .f32 := chunked v0 k1_pay142

/-- The greatest entry of each row of a matrix of chunk maxima. -/
def rowTop (m : FVec F S128x128 .f32) : FVec F S128x1 .f32 :=
  shapeCast S128x1 (multiReduction .maximumf [1] S128 m 0xFF800000#32 reduces_S128x128_S128 (.inl rfl) rfl) shapeCasts_S128_S128x1

/-- One less than the least entry of each row. -/
def rowFloor (m : FVec F S128x128 .f32) : FVec F S128x1 .f32 :=
  subf (shapeCast S128x1 (multiReduction .minimumf [1] S128 m 0x7F800000#32 reduces_S128x128_S128 (.inl rfl) rfl) shapeCasts_S128_S128x1)
    (broadcast S128x1 (Scalar.ofBits .f32 0x3F800000#32 : F .f32))

/-- Whether at least 33 entries of each row exceed the given thresholds. -/
def many (m : FVec F S128x128 .f32) (t : FVec F S128x1 .f32) : IVec S128x1 1 :=
  cmpf .oge (shapeCast S128x1 (multiReduction .add [1] S128
      (sitofp .f32 (extui 32 (cmpf .ogt m (broadcastTo S128x128 t broadcasts_S128x1_S128x128)) natLt_1_32))
      0x00000000#32 reduces_S128x128_S128 (.inl rfl) rfl) shapeCasts_S128_S128x1)
    (broadcast S128x1 (Scalar.ofBits .f32 0x42040000#32 : F .f32))

/-- One halving of the coarse interval, by the chunk maxima. -/
def coarse (m : FVec F S128x128 .f32) (s : FVec F S128x1 .f32 × FVec F S128x1 .f32) : FVec F S128x1 .f32 × FVec F S128x1 .f32 :=
  (select (many m (k1_pay145 s.1 s.2)) (k1_pay145 s.1 s.2) s.1, select (many m (k1_pay145 s.1 s.2)) s.2 (k1_pay145 s.1 s.2))

theorem top_eq (v0 : Vec F S128x16384 .f32) : chunked v0 k1_pay143 = rowTop (chunkMax v0) := rfl
theorem floor_eq (v0 : Vec F S128x16384 .f32) : chunked v0 k1_pay144 = rowFloor (chunkMax v0) := rfl
theorem low_eq (v0 : Vec F S128x16384 .f32) (a b : FVec F S128x1 .f32) : chunked v0 k1_pay147 a b = (coarse (chunkMax v0) (a, b)).1 := rfl
theorem high_eq (v0 : Vec F S128x16384 .f32) (a b : FVec F S128x1 .f32) : chunked v0 k1_pay148 a b = (coarse (chunkMax v0) (a, b)).2 := rfl

/-- The lower end after the 24 coarse halvings. -/
def coarseLow (v0 : Vec F S128x16384 .f32) : FVec F S128x1 .f32 :=
  (Nat.iterate (coarse (chunkMax v0)) 24 (rowFloor (chunkMax v0), rowTop (chunkMax v0))).1

/-- The three column vectors the fine halvings keep: lower ends, upper ends, finished marks. -/
abbrev Tri (F : FTy → Type) := Vec F S128x1 .f32 × Vec F S128x1 .f32 × Vec F S128x1 .f32

/-- The word saying that not every row of the block is finished. -/
def pending (dn : Vec F S128x1 .f32) : BitVec 1 :=
  Scalar.cmpi .ne
    (Scalar.extui (Scalar.xori (Scalar.cmpf .ogt (k1_pay3 dn) (Scalar.ofBits .f32 0x3F000000#32 : F .f32)) 1#1) : BitVec 32) 0#32

/-- One fine halving, over all the entries of the rows; none when every row is finished. -/
def fine (v1 : FVec F S128x16384 .f32) (s : Tri F) : Tri F :=
  if pending s.2.2 = 1#1 then (k1_pay9 v1 s.1 s.2.1 s.2.2, k1_pay10 v1 s.1 s.2.1 s.2.2, k1_pay11 v1 s.1 s.2.1 s.2.2) else s

/-- The three vectors when the fine halvings start, and after `n` of them. -/
def tri0 (v0 : Vec F S128x16384 .f32) : Tri F := (k1_pay149 (coarseLow v0), k1_pay1 (rowTop (chunkMax v0)), k1_pay2)
def tri (v0 : Vec F S128x16384 .f32) (n : ℕ) : Tri F := Nat.iterate (fine (k1_pay15 v0)) n (tri0 v0)

/-- The thresholds a block of rows ends with, its mask and its selected activations. -/
def thr (v0 : Vec F S128x16384 .f32) : Vec F S128x1 .f32 := (tri v0 26).2.1
def maskOf (v0 : Vec F S128x16384 .f32) : Vec F S128x16384 .f32 := k1_pay13 (k1_pay15 v0) (thr v0)
def keptOf (v0 : Vec F S128x16384 .f32) : Vec F S128x16384 .f32 := k1_pay14 (k1_pay15 v0) (thr v0)

end Cert.KernelIdeal.Sel

end
-- ==== Proof.SelBlock.lean ====
/- The selection launch: one call of its body. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.SelSteps
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Sel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev col : Rect S128x1 := Rect.unit (s := S128x1) ![0, 0] S128x1.size inb_S128x1_S128x1_0_0
abbrev wide : Rect S128x16384 := Rect.unit (s := S128x16384) ![0, 0] S128x16384.size inb_S128x16384_S128x16384_0_0

section Loop

variable (c : Dev nD) (i : grid1.Coords)
  (a1 : Memref sig .tc .vmem S128x16384 .f32) (h1 : a1.IsWhole) (a2 : Memref sig .tc .vmem S128x16384 .f32) (h2 : a2.IsWhole)
  (a3 : Memref sig .tc .vmem S128x16384 .f32) (h3 : a3.IsWhole) (a4 : Memref sig .tc .vmem S128x1 .f32) (h4 : a4.IsWhole)
  (a5 : Memref sig .tc .vmem S128x1 .f32) (h5 : a5.IsWhole) (a6 : Memref sig .tc .vmem S128x1 .f32) (h6 : a6.IsWhole)
  (v1 : FVec F S128x16384 .f32)

/-- The contents of the three scratch buffers. -/
abbrev Bufs : Type := Buf (Elt F) (a4.view.loc (c : Thread nD τ)) × Buf (Elt F) (a5.view.loc (c : Thread nD τ))
  × Buf (Elt F) (a6.view.loc (c : Thread nD τ))

/-- The vectors the three scratch buffers hold. -/
def held3 (s : Bufs (F := F) c a4 a5 a6) : Tri F :=
  (a4.view.readAt (Elt F) col.toLoadRect s.1, a5.view.readAt (Elt F) col.toLoadRect s.2.1, a6.view.readAt (Elt F) col.toLoadRect s.2.2)

/-- One trip of the fine halvings, on the buffers' contents. -/
def tripBufs (s : Bufs (F := F) c a4 a5 a6) : Bufs (F := F) c a4 a5 a6 :=
  if pending (held3 c a4 a5 a6 s).2.2 = 1#1 then
    (a4.view.writes (Elt F) s.1 [⟨col, (fine v1 (held3 c a4 a5 a6 s)).1⟩],
     a5.view.writes (Elt F) s.2.1 [⟨col, (fine v1 (held3 c a4 a5 a6 s)).2.1⟩],
     a6.view.writes (Elt F) s.2.2 [⟨col, (fine v1 (held3 c a4 a5 a6 s)).2.2⟩])
  else s

/-- The three buffers after a trip, each by the word that decides whether the trip writes. -/
theorem pending_split (s : Bufs (F := F) c a4 a5 a6) :
    (tripBufs c a4 a5 a6 v1 s).1 = (if _ : pending (a6.view.readAt (Elt F) col.toLoadRect s.2.2) = 1#1 then
        a4.view.writes (Elt F) s.1 [⟨col, k1_pay9 v1 (a4.view.readAt (Elt F) col.toLoadRect s.1)
          (a5.view.readAt (Elt F) col.toLoadRect s.2.1) (a6.view.readAt (Elt F) col.toLoadRect s.2.2)⟩] else s.1)
    ∧ (tripBufs c a4 a5 a6 v1 s).2.1 = (if _ : pending (a6.view.readAt (Elt F) col.toLoadRect s.2.2) = 1#1 then
        a5.view.writes (Elt F) s.2.1 [⟨col, k1_pay10 v1 (a4.view.readAt (Elt F) col.toLoadRect s.1)
          (a5.view.readAt (Elt F) col.toLoadRect s.2.1) (a6.view.readAt (Elt F) col.toLoadRect s.2.2)⟩] else s.2.1)
    ∧ (tripBufs c a4 a5 a6 v1 s).2.2 = (if _ : pending (a6.view.readAt (Elt F) col.toLoadRect s.2.2) = 1#1 then
        a6.view.writes (Elt F) s.2.2 [⟨col, k1_pay11 v1 (a4.view.readAt (Elt F) col.toLoadRect s.1)
          (a5.view.readAt (Elt F) col.toLoadRect s.2.1) (a6.view.readAt (Elt F) col.toLoadRect s.2.2)⟩] else s.2.2) := by
  by_cases h : pending (a6.view.readAt (Elt F) col.toLoadRect s.2.2) = 1#1
  · have t : (held3 c a4 a5 a6 s).2.2 = a6.view.readAt (Elt F) col.toLoadRect s.2.2 := rfl
    unfold tripBufs fine
    rw [t, if_pos h, if_pos h, dif_pos h, dif_pos h, dif_pos h]
    exact ⟨rfl, rfl, rfl⟩
  · have t : (held3 c a4 a5 a6 s).2.2 = a6.view.readAt (Elt F) col.toLoadRect s.2.2 := rfl
    unfold tripBufs
    rw [t, if_neg h, dif_neg h, dif_neg h, dif_neg h]
    exact ⟨rfl, rfl, rfl⟩

section Trips

variable (f4 : Buf (Elt F) (a4.view.loc (c : Thread nD τ))) (f5 : Buf (Elt F) (a5.view.loc (c : Thread nD τ)))
  (f6 : Buf (Elt F) (a6.view.loc (c : Thread nD τ)))

/-- Each buffer before trip `k`, from what the three held at the loop's entry. -/
def buf4 : ℕ → Buf (Elt F) (a4.view.loc (c : Thread nD τ))
  | 0 => f4
  | k + 1 => (Nat.iterate (tripBufs c a4 a5 a6 v1) (k + 1) (f4, f5, f6)).1
def buf5 : ℕ → Buf (Elt F) (a5.view.loc (c : Thread nD τ))
  | 0 => f5
  | k + 1 => (Nat.iterate (tripBufs c a4 a5 a6 v1) (k + 1) (f4, f5, f6)).2.1
def buf6 : ℕ → Buf (Elt F) (a6.view.loc (c : Thread nD τ))
  | 0 => f6
  | k + 1 => (Nat.iterate (tripBufs c a4 a5 a6 v1) (k + 1) (f4, f5, f6)).2.2

/-- Together they are the iterate of the trip. -/
theorem bufs_eq (k : ℕ) : (buf4 c a4 a5 a6 v1 f4 f5 f6 k, buf5 c a4 a5 a6 v1 f4 f5 f6 k, buf6 c a4 a5 a6 v1 f4 f5 f6 k)
    = Nat.iterate (tripBufs c a4 a5 a6 v1) k (f4, f5, f6) := by
  cases k <;> rfl

set_option warn.classDefReducibility false in
/-- The fine halvings' invariant: before trip `k` the buffers have gone through `k` trips. -/
@[sl_loop] def halvings :
    LoopInvTy_k1_t2 (F := F) Unit ℕ (UR sig nD τ) ℕ Variants.none c none Set.univ i a1 h1 a2 h2 a3 h3 a4 h4 a5 h5 a6 h6 v1 where
  inv k _ := iprop((a4.view.loc (c : Thread nD τ) ↦[a4.view.set]{fullShare} (buf4 c a4 a5 a6 v1 f4 f5 f6 k))
    ∗ (a5.view.loc (c : Thread nD τ) ↦[a5.view.set]{fullShare} (buf5 c a4 a5 a6 v1 f4 f5 f6 k))
    ∗ (a6.view.loc (c : Thread nD τ) ↦[a6.view.set]{fullShare} (buf6 c a4 a5 a6 v1 f4 f5 f6 k)))
  step k _ := by
    have e := pending_split c a4 a5 a6 v1 (Nat.iterate (tripBufs c a4 a5 a6 v1) k.val (f4, f5, f6))
    rw [← Function.iterate_succ_apply' (tripBufs c a4 a5 a6 v1), ← bufs_eq, ← bufs_eq] at e
    dsimp only at e
    rw [e.1, e.2.1, e.2.2]
    generalize buf4 c a4 a5 a6 v1 f4 f5 f6 k.val = s4
    generalize buf5 c a4 a5 a6 v1 f4 f5 f6 k.val = s5
    generalize buf6 c a4 a5 a6 v1 f4 f5 f6 k.val = s6
    unfold k1_t2_body
    iintro ⟨H4, H5, H6⟩
    sl_exec
    sl_step
    isplitl [H4]; · iexact H4
    isplitl [H5]; · iexact H5
    iexact H6

end Trips

/-- A column written whole reads back as written. -/
theorem col_read (a : Memref sig .tc .vmem S128x1 .f32) (f : Buf (Elt F) (a.view.loc (c : Thread nD τ))) (w : Vec F S128x1 .f32) :
    a.view.readAt (Elt F) col.toLoadRect (a.view.writes (Elt F) f [⟨col, w⟩]) = w :=
  View.readAt_writes_full _ _ _ _ _ _

/-- A trip of the buffers is a fine halving of the vectors they hold, -/
theorem held3_trip (s : Bufs (F := F) c a4 a5 a6) : held3 c a4 a5 a6 (tripBufs c a4 a5 a6 v1 s) = fine v1 (held3 c a4 a5 a6 s) := by
  unfold tripBufs
  by_cases h : pending (held3 c a4 a5 a6 s).2.2 = 1#1
  · rw [if_pos h]
    exact Prod.ext (col_read c a4 _ _) (Prod.ext (col_read c a5 _ _) (col_read c a6 _ _))
  · rw [if_neg h]; unfold fine; rw [if_neg h]

/-- and so are `n` of them. -/
theorem held3_trips (n : ℕ) (s : Bufs (F := F) c a4 a5 a6) :
    held3 c a4 a5 a6 (Nat.iterate (tripBufs c a4 a5 a6 v1) n s) = Nat.iterate (fine v1) n (held3 c a4 a5 a6 s) :=
  Function.Semiconj.iterate_right (f := held3 c a4 a5 a6) (held3_trip c a4 a5 a6 v1) n s

/-- The upper ends read back after the loop are the block's thresholds. -/
theorem thr_of_bufs (v0 : Vec F S128x16384 .f32) (f4 : Buf (Elt F) (a4.view.loc (c : Thread nD τ)))
    (f5 : Buf (Elt F) (a5.view.loc (c : Thread nD τ))) (f6 : Buf (Elt F) (a6.view.loc (c : Thread nD τ)))
    {l g : FVec F S128x1 .f32}
    (e4 : a4.view.readAt (Elt F) col.toLoadRect f4 = k1_pay149 l) (e5 : a5.view.readAt (Elt F) col.toLoadRect f5 = k1_pay1 g)
    (e6 : a6.view.readAt (Elt F) col.toLoadRect f6 = k1_pay2) (hl : l = coarseLow v0) (hg : g = rowTop (chunkMax v0)) :
    a5.view.readAt (Elt F) col.toLoadRect (buf5 c a4 a5 a6 (k1_pay15 v0) f4 f5 f6 k1_t2_loop.trips) = thr v0 := by
  subst hl hg
  have h0 : held3 c a4 a5 a6 (f4, f5, f6) = tri0 v0 := by unfold held3 tri0; dsimp only; rw [e4, e5, e6]
  have h := held3_trips c a4 a5 a6 (k1_pay15 v0) k1_t2_loop.trips (f4, f5, f6)
  rw [h0, ← bufs_eq, show k1_t2_loop.trips = 26 from rfl] at h
  rw [show k1_t2_loop.trips = 26 from rfl]
  exact congrArg (fun t : Tri F => t.2.1) h

end Loop

/-- The coarse loop's fold is its 24 iterates. -/
theorem coarse_fold (v0 : Vec F S128x16384 .f32) :
    (Scf.fold (n := k1_t1_loop.trips) (fun _ s => coarse (chunkMax v0) s) (rowFloor (chunkMax v0), rowTop (chunkMax v0))).1 = coarseLow v0 := by
  rw [Scf.fold_eq, List.foldl_const, List.length_finRange, show k1_t1_loop.trips = 24 from rfl]
  rfl

set_option maxHeartbeats 4000000 in
/-- One call of the selection's body: it leaves its input as it was, its outputs at `maskOf` and `keptOf` of it, and the
    scratch buffers at something. -/
theorem body_run (c : Dev nD) (i : grid1.Coords)
    (a1 : Memref sig .tc .vmem S128x16384 .f32) (h1 : a1.IsWhole) (a2 : Memref sig .tc .vmem S128x16384 .f32) (h2 : a2.IsWhole)
    (a3 : Memref sig .tc .vmem S128x16384 .f32) (h3 : a3.IsWhole) (a4 : Memref sig .tc .vmem S128x1 .f32) (h4 : a4.IsWhole)
    (a5 : Memref sig .tc .vmem S128x1 .f32) (h5 : a5.IsWhole) (a6 : Memref sig .tc .vmem S128x1 .f32) (h6 : a6.IsWhole)
    (x : Vec F S128x16384 .f32) (K : PUnit → sProp 𝕄) :
    iprop(owns (c : Thread nD τ) a1 fullShare x ∗ (∃ d, owns (c : Thread nD τ) a2 fullShare d) ∗ (∃ d, owns (c : Thread nD τ) a3 fullShare d)
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare (maskOf (View.ld x wide))
            ∗ owns (c : Thread nD τ) a3 fullShare (keptOf (View.ld x wide)) ∗ (∃ d, owns (c : Thread nD τ) a4 fullShare d)
            ∗ (∃ d, owns (c : Thread nD τ) a5 fullShare d) ∗ (∃ d, owns (c : Thread nD τ) a6 fullShare d)) -∗ K ⟨⟩))
      ⊢ wp frame (wpE (defs₀ (F := F)) Variants.none c none) Set.univ (cc1__sel_body i a1 h1 a2 h2 a3 h3 a4 h4 a5 h5 a6 h6) K := by
  simp only [cc1__sel_body_eq_skeleton]; unfold cc1__sel_body_skel
  unfold owns
  iintro ⟨⟨%f1, %e1, H1⟩, ⟨%d2, %f2, -, H2⟩, ⟨%d3, %f3, -, H3⟩, ⟨%d4, %f4, -, H4⟩, ⟨%d5, %f5, -, H5⟩, ⟨%d6, %f6, -, H6⟩, Hk⟩
  subst e1
  sl_exec
  have hr : body_run.sl.r c a1 f1 = k1_pay15 (a1.view.readAt (Elt F) wide.toLoadRect f1) := rfl
  have hg : body_run.sl.r_128 c a1 f1 = rowTop (chunkMax (a1.view.readAt (Elt F) wide.toLoadRect f1)) := rfl
  have hl : (body_run.sl.r_127 c a1 f1).1 = coarseLow (a1.view.readAt (Elt F) wide.toLoadRect f1) := coarse_fold _
  have ht : body_run.sl.v406 c a1 a4 a5 a6 f1 = thr (a1.view.readAt (Elt F) wide.toLoadRect f1) :=
    thr_of_bufs c a4 a5 a6 _ _ _ _ (col_read c a4 _ _) (col_read c a5 _ _) (col_read c a6 _ _) hl hg
  sl_step
  iapply Hk
  isplitl [H1]
  · iexists f1; isplitr; · ipureintro; rfl
    iexact H1
  isplitl [H2]
  · iexists _; isplitr
    swap; · iexact H2
    ipureintro
    exact (View.read_writes_full _ _ _ _ _).trans (congrArg₂ k1_pay13 hr ht)
  isplitl [H3]
  · iexists _; isplitr
    swap; · iexact H3
    ipureintro
    exact (View.read_writes_full _ _ _ _ _).trans (congrArg₂ k1_pay14 hr ht)
  isplitl [H4]
  · iexists _, _; isplitr
    swap; · iexact H4
    ipureintro; rfl
  isplitl [H5]
  · iexists _, _; isplitr
    swap; · iexact H5
    ipureintro; rfl
  iexists _, _; isplitr
  swap; · iexact H6
  ipureintro; rfl

end Cert.KernelIdeal.Sel

end
-- ==== Proof.SelData.lean ====
/- The selection launch: the pipeline's proof data over the arrays it is entered with, and its body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.SelBlock
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Sel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : Dev nD → Valuation τ sig (Elt F))

/-- The block of rows of point `t`, and the same as the body loads it. -/
def blkOf (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))
def rowsAt (c : Dev nD) (t : Fin cfg1.N) : Vec F S128x16384 .f32 := View.ld (Val := Elt F) (blkOf V c 0 t : Vec F S128x16384 .f32) wide

/-- The selection's proof data: the input's buffer keeps its block, the outputs' hold `maskOf` and `keptOf` of it. -/
def dat (c : Dev nD) : Dat τ (Elt F) Unit ℕ (UR sig nD τ) ℕ cfg1 c where
  A w := V c (Pipeline.arrRef spec1 w)
  after w t := match w with
    | ⟨0, _⟩ => blkOf V c 0 t
    | ⟨1, _⟩ => maskOf (rowsAt V c t)
    | ⟨2, _⟩ => keptOf (rowsAt V c t)
  Φ _ := Pipeline.ΦA spec1 c
  q _ := fullShare
  owed _ := 0

/-- The data's arrays are those the region is entered with. -/
theorem A_eq (c : Dev nD) (w : Fin cfg1.W) : (dat V c).A w = V c (Pipeline.arrRef spec1 w) := by dsimp only [dat]

theorem after_0 (c : Dev nD) (t : Fin cfg1.N) : (dat V c).after 0 t = blkOf V c 0 t := by dsimp only [dat]
theorem after_1 (c : Dev nD) (t : Fin cfg1.N) : (dat V c).after 1 t = maskOf (rowsAt V c t) := by dsimp only [dat]
theorem after_2 (c : Dev nD) (t : Fin cfg1.N) : (dat V c).after 2 t = keptOf (rowsAt V c t) := by dsimp only [dat]

/-- The input's staging buffer holds its block when the body is called. -/
theorem before_0 (c : Dev nD) (t : Fin cfg1.N) (d) : (dat V c).before 0 t d = blkOf V c 0 t :=
  ((dat V c).before_in_eq_fetched 0 rfl (fun _ => rfl) (fun _ _ _ => rfl)
    (fun t => by rw [after_0]; unfold Dat.blockOf blkOf; rw [A_eq]; try rfl) t d).trans
    (by unfold Dat.fetched Dat.blockOf blkOf; rw [A_eq]; try rfl)

/-- What the body is handed at point `t`, window by window, and what it hands back. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The three scratch buffers, each at something. -/
def scratches (c : Dev nD) : sProp 𝕄 :=
  iprop((∃ d, owns (c : Thread nD τ) (Memref.whole cc1_scratch0) fullShare d)
    ∗ (∃ d, owns (c : Thread nD τ) (Memref.whole cc1_scratch1) fullShare d)
    ∗ (∃ d, owns (c : Thread nD τ) (Memref.whole cc1_scratch2) fullShare d))

/-- The invariant is the scratch buffers and a rest. -/
theorem inv_split (c : Dev nD) : (Pipeline.ΦA (Val := Elt F) (U := UR sig nD τ) spec1 c : sProp 𝕄)
    = iprop((scratches c ∗ Pipeline.scopedRestBut (Ix := Unit) (Name := ℕ) (U := UR sig nD τ) (Lvl := ℕ) (Val := Elt F) spec1 c
        [cc1_scratch0, cc1_scratch1, cc1_scratch2]) ∗ ∃ r, prngReg c r) := by
  unfold Pipeline.ΦA scratches
  rw [Pipeline.scopedRest_split_of_list spec1 c [cc1_scratch0, cc1_scratch1, cc1_scratch2] (by decide) (by decide)]
  simp only [owns_whole]
  rfl

/-- The body at point `t`, from what it is handed to what it returns. -/
theorem body_at (c : Dev nD) (t : Fin cfg1.N) :
    handed V c t ⊢ wp frame (wpE (defs₀ (F := F)) Variants.none c none) Set.univ (bodyAt1 t) (fun _ => returned V c t) := by
  unfold handed returned bodyAt1
  simp only [before_0]
  rw [show (dat V c).Φ t.succ = Pipeline.ΦA spec1 c from rfl, show (dat V c).Φ t.castSucc = Pipeline.ΦA spec1 c from rfl, inv_split,
    show (dat V c).owesAt () t.succ = (dat V c).owesAt () t.castSucc from rfl, after_0, after_1, after_2]
  unfold scratches
  iintro ⟨⟨⟨⟨HA, HB, HC⟩, HR⟩, Hp⟩, Hw, ⟨%d0, H0⟩, ⟨%d1, H1⟩, ⟨%d2, H2⟩⟩
  iapply (body_run c (grid1.coords t) _ _ _ _ _ _ _ _ _ _ _ _ (blkOf V c 0 t) _)
  isplitl [H0]; · iexact H0
  isplitl [H1]; · iexists _; iexact H1
  isplitl [H2]; · iexists _; iexact H2
  isplitl [HA]; · iexact HA
  isplitl [HB]; · iexact HB
  isplitl [HC]; · iexact HC
  iintro ⟨H0, H1, H2, HA, HB, HC⟩
  isplitl [HA HB HC HR Hp]
  · isplitr [Hp]
    · isplitr [HR]
      · isplitl [HA]; · iexact HA
        isplitl [HB]; · iexact HB
        iexact HC
      · iexact HR
    · iexact Hp
  isplitl [Hw]; · iexact Hw
  isplitl [H0]; · iexact H0
  isplitl [H1]; · iexact H1
  iexact H2

/-- The body obligation of the selection's pipeline, at every point. -/
theorem obligation (c : Dev nD) : BodyObligation (dat V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (body_at V c t) rfl .rfl fun _ => .rfl

end Cert.KernelIdeal.Sel

end
-- ==== Proof.DecBlock.lean ====
/- The decoder's launch: one call of its body, at the first, the middle and the last quarter of the features. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Dec

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev rx : Rect S256x4096 := Rect.unit (s := S256x4096) ![0, 0] S256x4096.size inb_S256x4096_S256x4096_0_0
abbrev rw : Rect S1024x4096 := Rect.unit (s := S1024x4096) ![0, 0] S1024x4096.size inb_S1024x4096_S1024x4096_0_0
abbrev rb : Rect S1024 := Rect.unit (s := S1024) ![0] S1024.size inb_S1024_S1024_0
abbrev ro : Rect S256x1024 := Rect.unit (s := S256x1024) ![0, 0] S256x1024.size inb_S256x1024_S256x1024_0_0

/-- A block stored in a slot of the accumulator is what a load of that slot then reads. -/
theorem slot_read {κ : Kind} {sp : Space} (v : View sig κ sp S16x256x1024 .f32) (f : v.ty.Contents (Elt F)) (p : Vec F S1x256x1024 .f32)
    (off : Fin 3 → ℕ) (h h' : ∀ a, off a + S1x256x1024.size a ≤ S16x256x1024.size a) :
    v.readAt (Elt F) (Rect.unit (s := S16x256x1024) off S1x256x1024.size h').toLoadRect
      (v.writes (Elt F) f [⟨Rect.unit (s := S16x256x1024) off S1x256x1024.size h, p⟩]) = p := by
  funext y
  exact View.read_writes_cons_emb v f _ _ _ y

section Body

variable (c : Dev nD) (i : grid2.Coords) (a2 : Memref sig .tc .vmem S256x4096 .f32) (h2 : a2.IsWhole)
  (a3 : Memref sig .tc .vmem S1024x4096 .bf16) (h3 : a3.IsWhole) (a4 : Memref sig .tc .vmem S1024 .f32) (h4 : a4.IsWhole)
  (a5 : Memref sig .tc .vmem S256x1024 .f32) (h5 : a5.IsWhole) (a6 : Memref sig .tc .vmem S16x256x1024 .f32) (h6 : a6.IsWhole)
  (x : Vec F S256x4096 .f32) (w : Vec F S1024x4096 .bf16) (b : Vec F S1024 .f32) (d : Vec F S256x1024 .f32)
  (f : Buf (Elt F) (a6.view.loc (c : Thread nD τ)))

/-- The body's memrefs, its inputs at given contents, its output and its accumulator too. -/
def held (d : Vec F S256x1024 .f32) (f : Buf (Elt F) (a6.view.loc (c : Thread nD τ))) : sProp 𝕄 :=
  iprop(owns (c : Thread nD τ) a2 fullShare x ∗ owns (c : Thread nD τ) a3 fullShare w ∗ owns (c : Thread nD τ) a4 fullShare b
    ∗ owns (c : Thread nD τ) a5 fullShare d ∗ (a6.view.loc (c : Thread nD τ) ↦[a6.view.set]{fullShare} f))

set_option maxHeartbeats 2000000 in
/-- At the first quarter the accumulator's slot is set; the output is left. -/
theorem first_run (k1 : k2_cond1 i = 1#1) (k2 : ¬ k2_cond2 i = 1#1) (k3 : ¬ k2_cond3 i = 1#1) (K : PUnit → sProp 𝕄) :
    iprop(held c a2 a3 a4 a5 a6 x w b d f ∗ (held c a2 a3 a4 a5 a6 x w b d
        (a6.view.writes (Elt F) f [⟨Rect.unit (s := S16x256x1024) (k2_off1 i) S1x256x1024.size (k2_off1_inb i k1), k2_pay2 (View.ld x rx) (View.ld w rw)⟩]) -∗ K ⟨⟩))
      ⊢ wp frame (wpE (defs₀ (F := F)) Variants.none c none) Set.univ (cc2__dec_body i a2 h2 a3 h3 a4 h4 a5 h5 a6 h6) K := by
  simp only [cc2__dec_body_eq_skeleton]; unfold cc2__dec_body_skel
  unfold held owns
  iintro ⟨⟨⟨%fx, %ex, Hx⟩, ⟨%fw, %ew, Hw⟩, ⟨%fb, %eb, Hb⟩, ⟨%fo, %eo, Ho⟩, Ha⟩, Hk⟩
  subst ex ew eb eo
  sl_exec
  sl_step
  iapply Hk
  isplitl [Hx]
  · iexists fx
    isplitr
    · ipureintro; rfl
    · iexact Hx
  isplitl [Hw]
  · iexists fw
    isplitr
    · ipureintro; rfl
    · iexact Hw
  isplitl [Hb]
  · iexists fb
    isplitr
    · ipureintro; rfl
    · iexact Hb
  isplitl [Ho]
  · iexists fo
    isplitr
    · ipureintro; rfl
    · iexact Ho
  iexact Ha

set_option maxHeartbeats 2000000 in
/-- At a middle quarter it is added to; the output is left. -/
theorem middle_run (k1 : ¬ k2_cond1 i = 1#1) (k2 : k2_cond2 i = 1#1) (k3 : ¬ k2_cond3 i = 1#1) (K : PUnit → sProp 𝕄) :
    iprop(held c a2 a3 a4 a5 a6 x w b d f ∗ (held c a2 a3 a4 a5 a6 x w b d
        (a6.view.writes (Elt F) f [⟨Rect.unit (s := S16x256x1024) (k2_off2 i) S1x256x1024.size (k2_off2_inb i k2), k2_pay3 (View.ld x rx) (View.ld w rw) (a6.view.readAt (Elt F) (Rect.unit (s := S16x256x1024) (k2_off2 i) S1x256x1024.size (k2_off2_inb i k2)).toLoadRect f)⟩]) -∗ K ⟨⟩))
      ⊢ wp frame (wpE (defs₀ (F := F)) Variants.none c none) Set.univ (cc2__dec_body i a2 h2 a3 h3 a4 h4 a5 h5 a6 h6) K := by
  simp only [cc2__dec_body_eq_skeleton]; unfold cc2__dec_body_skel
  unfold held owns
  iintro ⟨⟨⟨%fx, %ex, Hx⟩, ⟨%fw, %ew, Hw⟩, ⟨%fb, %eb, Hb⟩, ⟨%fo, %eo, Ho⟩, Ha⟩, Hk⟩
  subst ex ew eb eo
  sl_exec
  sl_step
  iapply Hk
  isplitl [Hx]
  · iexists fx
    isplitr
    · ipureintro; rfl
    · iexact Hx
  isplitl [Hw]
  · iexists fw
    isplitr
    · ipureintro; rfl
    · iexact Hw
  isplitl [Hb]
  · iexists fb
    isplitr
    · ipureintro; rfl
    · iexact Hb
  isplitl [Ho]
  · iexists fo
    isplitr
    · ipureintro; rfl
    · iexact Ho
  iexact Ha

set_option maxHeartbeats 2000000 in
/-- At the last quarter it is added to, and the output is set. -/
theorem last_run (k1 : ¬ k2_cond1 i = 1#1) (k2 : k2_cond2 i = 1#1) (k3 : k2_cond3 i = 1#1) (K : PUnit → sProp 𝕄) :
    iprop(held c a2 a3 a4 a5 a6 x w b d f ∗ (held c a2 a3 a4 a5 a6 x w b (k2_pay4 (k2_pay3 (View.ld x rx) (View.ld w rw) (a6.view.readAt (Elt F) (Rect.unit (s := S16x256x1024) (k2_off2 i) S1x256x1024.size (k2_off2_inb i k2)).toLoadRect f)) (View.ld b rb))
        (a6.view.writes (Elt F) f [⟨Rect.unit (s := S16x256x1024) (k2_off2 i) S1x256x1024.size (k2_off2_inb i k2), k2_pay3 (View.ld x rx) (View.ld w rw) (a6.view.readAt (Elt F) (Rect.unit (s := S16x256x1024) (k2_off2 i) S1x256x1024.size (k2_off2_inb i k2)).toLoadRect f)⟩]) -∗ K ⟨⟩))
      ⊢ wp frame (wpE (defs₀ (F := F)) Variants.none c none) Set.univ (cc2__dec_body i a2 h2 a3 h3 a4 h4 a5 h5 a6 h6) K := by
  simp only [cc2__dec_body_eq_skeleton]; unfold cc2__dec_body_skel
  unfold held owns
  iintro ⟨⟨⟨%fx, %ex, Hx⟩, ⟨%fw, %ew, Hw⟩, ⟨%fb, %eb, Hb⟩, ⟨%fo, %eo, Ho⟩, Ha⟩, Hk⟩
  subst ex ew eb eo
  sl_exec
  sl_step
  iapply Hk
  isplitl [Hx]
  · iexists fx
    isplitr
    · ipureintro; rfl
    · iexact Hx
  isplitl [Hw]
  · iexists fw
    isplitr
    · ipureintro; rfl
    · iexact Hw
  isplitl [Hb]
  · iexists fb
    isplitr
    · ipureintro; rfl
    · iexact Hb
  isplitl [Ho]
  · iexists _
    isplitr
    · ipureintro
      have hs : last_run.sl.v16 c i a2 a3 a6 f k2 k3 fx fw = k2_pay3 (View.ld (View.read (Elt F) a2.view fx) rx)
          (View.ld (View.read (Elt F) a3.view fw) rw) (a6.view.readAt (Elt F) (Rect.unit (s := S16x256x1024) (k2_off2 i) S1x256x1024.size
            (k2_off2_inb i k2)).toLoadRect f) := by
        unfold last_run.sl.v16 last_run.sl.Ha_1
        exact View.readCov_cons_toLoadRect a6.view (Rect.unit (s := S16x256x1024) (k2_off2 i) S1x256x1024.size (k2_off2_inb i k2)) _ []
      rw [← hs]
      exact View.read_writes_full a5.view fo inb_S256x1024_S256x1024_0_0 _ []
    · iexact Ho
  iexact Ha

end Body

end Cert.KernelIdeal.Dec

end
-- ==== Proof.DecData.lean ====
/- The decoder's launch: the sums its accumulator runs through, the pipeline's proof data, and its body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.DecBlock
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.DatRel

@[expose] public section

set_option maxRecDepth 16384

noncomputable section

namespace Cert.KernelIdeal.Dec

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

variable (V : Dev nD → Valuation τ sig (Elt F))

/-- The block of array `w` that point `t` works on. -/
def blkOf (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The three blocks of inputs of point `t`, as the body loads them. -/
def outIn (c : Dev nD) (t : Fin cfg2.N) : Vec F S256x4096 .f32 := View.ld (Val := Elt F) (blkOf V c 0 t : Vec F S256x4096 .f32) rx
def wIn (c : Dev nD) (t : Fin cfg2.N) : Vec F S1024x4096 .bf16 := View.ld (Val := Elt F) (blkOf V c 1 t : Vec F S1024x4096 .bf16) rw
def bIn (c : Dev nD) (t : Fin cfg2.N) : Vec F S1024 .f32 := View.ld (Val := Elt F) (blkOf V c 2 t : Vec F S1024 .f32) rb

/-- The point of quarter `f` and row block `s`. -/
def pt (f s : ℕ) : Fin cfg2.N := ⟨(f * 16 + s) % 64, Nat.lt_of_lt_of_eq (Nat.mod_lt _ (by decide)) (by decide)⟩

/-- What slot `s` of the accumulator holds after quarter `f`. -/
def acc (c : Dev nD) (s : ℕ) : ℕ → Vec F S1x256x1024 .f32
  | 0 => k2_pay2 (outIn V c (pt 0 s)) (wIn V c (pt 0 s))
  | f + 1 => k2_pay3 (outIn V c (pt (f + 1) s)) (wIn V c (pt (f + 1) s)) (acc c s f)

/-- What is stored in the output at a point of the last quarter. -/
def sumOf (c : Dev nD) (t : Fin cfg2.N) : Vec F S256x1024 .f32 := k2_pay4 (acc V c (t.val % 16) 3) (bIn V c t)

/-- Slot `s` of the accumulator. -/
theorem slot_inb (s : Fin 16) : ∀ a : Fin 3, (![s.val, 0, 0] : Fin 3 → ℕ) a + S1x256x1024.size a ≤ S16x256x1024.size a := by
  intro a
  have := s.isLt
  match a with
  | 0 => show s.val + 1 ≤ 16; omega
  | 1 => show 0 + 256 ≤ 256; omega
  | 2 => show 0 + 1024 ≤ 1024; omega
abbrev slot (s : Fin 16) : Rect S16x256x1024 := Rect.unit (s := S16x256x1024) ![s.val, 0, 0] S1x256x1024.size (slot_inb s)

/-- The accumulator's memref. -/
abbrev mem : Memref sig .tc .vmem S16x256x1024 .f32 := Memref.whole cc2_scratch0

/-- After `n` points a slot that was met holds the sum of the quarters it was met in. -/
def Sums (c : Dev nD) (n : ℕ) (X : Buf (Elt F) (mem.view.loc (c : Thread nD τ))) : Prop :=
  ∀ (s : Fin 16) (f : ℕ), f * 16 + s.val < n → n ≤ (f + 1) * 16 + s.val →
    mem.view.readAt (Elt F) (slot s).toLoadRect X = acc V c s.val f

/-- A block stored in one slot leaves another slot's contents. -/
theorem slot_other {c : Dev nD} (X : Buf (Elt F) (mem.view.loc (c : Thread nD τ))) (s s' : Fin 16) (h : s ≠ s') (p : Vec F S1x256x1024 .f32) :
    mem.view.readAt (Elt F) (slot s).toLoadRect (mem.view.writes (Elt F) X [⟨slot s', p⟩])
      = mem.view.readAt (Elt F) (slot s).toLoadRect X := by
  funext y
  refine View.read_writes_cons_unit_of_not_mem mem.view X (slot_inb s') p [] _ rfl 0 ?_
  have h0 : (y 0).val < 1 := (y 0).isLt
  have hy : (((slot s).toLoadRect.idx y) 0).val = s.val + 1 * (y 0).val := rfl
  have hne : s.val ≠ s'.val := fun e => h (Fin.ext e)
  rw [hy]
  show _ < s'.val ∨ s'.val + 1 ≤ _
  omega

/-- A store and a load at offsets that are a slot's are a store and a load of the slot. -/
theorem store_slot {c : Dev nD} (X : Buf (Elt F) (mem.view.loc (c : Thread nD τ))) (s : Fin 16) (p : Vec F S1x256x1024 .f32) (off : Fin 3 → ℕ)
    (e : off = ![s.val, 0, 0]) (h) : mem.view.writes (Elt F) X [⟨Rect.unit (s := S16x256x1024) off S1x256x1024.size h, p⟩]
      = mem.view.writes (Elt F) X [⟨slot s, p⟩] := by subst e; rfl
theorem load_slot {c : Dev nD} (X : Buf (Elt F) (mem.view.loc (c : Thread nD τ))) (s : Fin 16) (off : Fin 3 → ℕ)
    (e : off = ![s.val, 0, 0]) (h) : mem.view.readAt (Elt F) (Rect.unit (s := S16x256x1024) off S1x256x1024.size h).toLoadRect X
      = mem.view.readAt (Elt F) (slot s).toLoadRect X := by subst e; rfl

/-- One point more: the slot it stores to holds the next sum. -/
theorem Sums.step {c : Dev nD} {s : Fin 16} {f : ℕ} {X : Buf (Elt F) (mem.view.loc (c : Thread nD τ))} (h : Sums V c (f * 16 + s.val) X) :
    Sums V c (f * 16 + s.val + 1) (mem.view.writes (Elt F) X [⟨slot s, acc V c s.val f⟩]) := by
  intro s' f' h1 h2
  by_cases hs : s' = s
  · subst hs
    obtain rfl : f' = f := by omega
    exact slot_read mem.view X _ _ _ _
  · have hne : s'.val ≠ s.val := fun e => hs (Fin.ext e)
    have := s.isLt
    have := s'.isLt
    rw [slot_other X s' s hs]
    exact h s' f' (by omega) (by omega)

/-- The conditions and the offsets at a point, in its number. -/
theorem cond1_at : ∀ t : Fin grid2.N, k2_cond1 (grid2.coords t) = 1#1 ↔ t.val < 16 := by decide
theorem cond2_at : ∀ t : Fin grid2.N, k2_cond2 (grid2.coords t) = 1#1 ↔ 16 ≤ t.val := by decide
theorem cond3_at : ∀ t : Fin grid2.N, k2_cond3 (grid2.coords t) = 1#1 ↔ 48 ≤ t.val := by decide
theorem off_at : ∀ t : Fin grid2.N, k2_off1 (grid2.coords t) = ![t.val % 16, 0, 0] := by decide

/-- A point is its quarter and its row block. -/
theorem pt_self (t : Fin cfg2.N) : pt (t.val / 16) (t.val % 16) = t := by
  have := t.isLt
  have hN : cfg2.N = 64 := by decide
  exact Fin.ext (by show (t.val / 16 * 16 + t.val % 16) % 64 = t.val; omega)

/-- The windows whose staging buffer is held to a statement only: the output's. -/
def fgt : Fin cfg2.W → Bool := fun | 3 => true | _ => false

/-- At a point of the last quarter the output's staging buffer holds the sum; before, anything. -/
def Rl (c : Dev nD) : (w : Fin cfg2.W) → Fin cfg2.N → ((cfg2.win w).block.Idx → Elt F (cfg2.win w).elt) → Prop
  | 3 => fun t X => 48 ≤ t.val → X = sumOf V c t
  | _ => fun _ _ => True

/-- The invariant: the accumulator at its sums, and a rest. -/
def Φ (c : Dev nD) (n : ℕ) : sProp 𝕄 :=
  iprop(((∃ X, ⌜Sums V c n X⌝ ∗ (mem.view.loc (c : Thread nD τ) ↦[mem.view.set]{fullShare} X))
    ∗ Pipeline.scopedRestBut (Ix := Unit) (Name := ℕ) (U := UR sig nD τ) (Lvl := ℕ) (Val := Elt F) spec2 c [cc2_scratch0]) ∗ ∃ r, prngReg c r)

/-- The decoder's proof data. -/
def dat (c : Dev nD) : Dat τ (Elt F) Unit ℕ (UR sig nD τ) ℕ cfg2 c where
  A w := V c (Pipeline.arrRef spec2 w)
  after w t := match w with
    | ⟨0, _⟩ => blkOf V c 0 t
    | ⟨1, _⟩ => blkOf V c 1 t
    | ⟨2, _⟩ => blkOf V c 2 t
    | ⟨3, _⟩ => sumOf V c t
  Φ t := Φ V c t.val
  q _ := fullShare
  owed _ := 0

/-- The data's arrays are those the region is entered with. -/
theorem A_eq (c : Dev nD) (w : Fin cfg2.W) : (dat V c).A w = V c (Pipeline.arrRef spec2 w) := by dsimp only [dat]

theorem after_0 (c : Dev nD) (t : Fin cfg2.N) : (dat V c).after 0 t = blkOf V c 0 t := by dsimp only [dat]
theorem after_1 (c : Dev nD) (t : Fin cfg2.N) : (dat V c).after 1 t = blkOf V c 1 t := by dsimp only [dat]
theorem after_2 (c : Dev nD) (t : Fin cfg2.N) : (dat V c).after 2 t = blkOf V c 2 t := by dsimp only [dat]

/-- Each input's staging buffer holds its block when the body is called. -/
theorem before_0 (c : Dev nD) (t : Fin cfg2.N) (d) : (dat V c).before 0 t d = blkOf V c 0 t :=
  ((dat V c).before_in_eq_fetched 0 rfl (fun _ => rfl) (fun _ _ _ => rfl)
    (fun t => by rw [after_0]; unfold Dat.blockOf blkOf; rw [A_eq]; try rfl) t d).trans
    (by unfold Dat.fetched Dat.blockOf blkOf; rw [A_eq]; try rfl)
theorem before_1 (c : Dev nD) (t : Fin cfg2.N) (d) : (dat V c).before 1 t d = blkOf V c 1 t :=
  ((dat V c).before_in_eq_fetched 1 rfl (fun _ => rfl) (fun _ _ _ => rfl)
    (fun t => by rw [after_1]; unfold Dat.blockOf blkOf; rw [A_eq]; try rfl) t d).trans
    (by unfold Dat.fetched Dat.blockOf blkOf; rw [A_eq]; try rfl)
theorem before_2 (c : Dev nD) (t : Fin cfg2.N) (d) : (dat V c).before 2 t d = blkOf V c 2 t :=
  ((dat V c).before_in_eq_fetched 2 rfl (fun _ => rfl) (fun _ _ _ => rfl)
    (fun t => by rw [after_2]; unfold Dat.blockOf blkOf; rw [A_eq]; try rfl) t d).trans
    (by unfold Dat.fetched Dat.blockOf blkOf; rw [A_eq]; try rfl)

/-- What the body is handed at point `t`, window by window, and what it hands back. -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ Y, ⌜((dat V c).toRRel fgt (Rl V c)).Finds 3 t Y⌝ ∗ owns (c : Thread nD τ) (st2_3 t) fullShare Y))
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ (∃ X, ⌜Rl V c 3 t X⌝ ∗ owns (c : Thread nD τ) (st2_3 t) fullShare X))

/-- One call of the body at point `t`: the inputs are left, the accumulator moves on, the output is set at the last quarter. -/
theorem call (c : Dev nD) (t : Fin cfg2.N) (Y : Vec F S256x1024 .f32) (X : Buf (Elt F) (mem.view.loc (c : Thread nD τ)))
    (hX : Sums V c t.val X) (K : PUnit → sProp 𝕄) :
    iprop(held c (st2_0 t) (st2_1 t) (st2_2 t) (st2_3 t) mem (blkOf V c 0 t) (blkOf V c 1 t) (blkOf V c 2 t) Y X
        ∗ ((∃ Y' X', ⌜Rl V c 3 t Y' ∧ Sums V c (t.val + 1) X'⌝
          ∗ held c (st2_0 t) (st2_1 t) (st2_2 t) (st2_3 t) mem (blkOf V c 0 t) (blkOf V c 1 t) (blkOf V c 2 t) Y' X') -∗ K ⟨⟩))
      ⊢ wp frame (wpE (defs₀ (F := F)) Variants.none c none) Set.univ (bodyAt2 t) K := by
  have hN : cfg2.N = 64 := by decide
  have ht : t.val < 64 := hN ▸ t.isLt
  have hs : t.val % 16 < 16 := Nat.mod_lt _ (by decide)
  have hsplit : t.val / 16 * 16 + t.val % 16 = t.val := by omega
  have hpt := pt_self t
  have hstep : ∀ f, t.val = f * 16 + t.val % 16 → Sums V c (t.val + 1)
      (mem.view.writes (Elt F) X [⟨slot ⟨t.val % 16, hs⟩, acc V c (t.val % 16) f⟩]) := fun f e => by
    have := Sums.step V (s := ⟨t.val % 16, hs⟩) (f := f) (X := X) (by show Sums V c (f * 16 + t.val % 16) X; rw [← e]; exact hX)
    have e' : f * 16 + t.val % 16 + 1 = t.val + 1 := by omega
    exact e' ▸ this
  have hprev : ∀ f, t.val = (f + 1) * 16 + t.val % 16 →
      mem.view.readAt (Elt F) (slot ⟨t.val % 16, hs⟩).toLoadRect X = acc V c (t.val % 16) f := fun f e =>
    hX ⟨t.val % 16, hs⟩ f (by show f * 16 + t.val % 16 < t.val; omega) (by show t.val ≤ (f + 1) * 16 + t.val % 16; omega)
  have hoff : k2_off1 (grid2.coords t) = ![(⟨t.val % 16, hs⟩ : Fin 16).val, 0, 0] := off_at t
  have hoff' : k2_off2 (grid2.coords t) = ![(⟨t.val % 16, hs⟩ : Fin 16).val, 0, 0] := off_at t
  have hblk : ∀ f, t.val = f * 16 + t.val % 16 → pt f (t.val % 16) = t := fun f e => by
    have e' : f = t.val / 16 := by omega
    rw [e']; exact hpt
  unfold bodyAt2
  iintro ⟨HH, Hk⟩
  rcases Nat.lt_or_ge t.val 16 with h1 | h1
  · iapply (first_run c (grid2.coords t) _ _ _ _ _ _ _ _ mem _ (blkOf V c 0 t) (blkOf V c 1 t) (blkOf V c 2 t) Y X
      ((cond1_at t).2 h1) (fun h => by have := (cond2_at t).1 h; omega) (fun h => by have := (cond3_at t).1 h; omega) K)
    isplitl [HH]; · iexact HH
    iintro HH
    iapply Hk
    iexists Y, (mem.view.writes (Elt F) X [⟨Rect.unit (s := S16x256x1024) (k2_off1 (grid2.coords t)) S1x256x1024.size (k2_off1_inb (grid2.coords t) ((cond1_at t).2 h1)), k2_pay2 (View.ld (blkOf V c 0 t : Vec F S256x4096 .f32) rx) (View.ld (blkOf V c 1 t : Vec F S1024x4096 .bf16) rw)⟩])
    isplitr
    · ipureintro
      have e : t.val = 0 * 16 + t.val % 16 := by omega
      refine ⟨fun h => by omega, ?_⟩
      rw [store_slot X ⟨t.val % 16, hs⟩ _ _ hoff]
      have := hstep 0 e
      unfold acc outIn wIn at this
      rw [hblk 0 e] at this
      exact this
    · iexact HH
  · obtain ⟨f, hf⟩ : ∃ f, t.val = (f + 1) * 16 + t.val % 16 := ⟨t.val / 16 - 1, by omega⟩
    have hp : k2_pay3 (View.ld (blkOf V c 0 t : Vec F S256x4096 .f32) rx) (View.ld (blkOf V c 1 t : Vec F S1024x4096 .bf16) rw)
        (mem.view.readAt (Elt F) (Rect.unit (s := S16x256x1024) (k2_off2 (grid2.coords t)) S1x256x1024.size
          (k2_off2_inb (grid2.coords t) ((cond2_at t).2 h1))).toLoadRect X) = acc V c (t.val % 16) (f + 1) := by
      rw [load_slot X ⟨t.val % 16, hs⟩ _ hoff', hprev f hf]
      show _ = k2_pay3 (outIn V c (pt (f + 1) (t.val % 16))) (wIn V c (pt (f + 1) (t.val % 16))) (acc V c (t.val % 16) f)
      rw [hblk (f + 1) hf]
      rfl
    have hnext : Sums V c (t.val + 1) (mem.view.writes (Elt F) X [⟨Rect.unit (s := S16x256x1024) (k2_off2 (grid2.coords t)) S1x256x1024.size
        (k2_off2_inb (grid2.coords t) ((cond2_at t).2 h1)), k2_pay3 (View.ld (blkOf V c 0 t : Vec F S256x4096 .f32) rx)
        (View.ld (blkOf V c 1 t : Vec F S1024x4096 .bf16) rw) (mem.view.readAt (Elt F) (Rect.unit (s := S16x256x1024) (k2_off2 (grid2.coords t))
          S1x256x1024.size (k2_off2_inb (grid2.coords t) ((cond2_at t).2 h1))).toLoadRect X)⟩]) := by
      rw [hp, store_slot X ⟨t.val % 16, hs⟩ _ _ hoff']
      exact hstep (f + 1) hf
    rcases Nat.lt_or_ge t.val 48 with h3 | h3
    · iapply (middle_run c (grid2.coords t) _ _ _ _ _ _ _ _ mem _ (blkOf V c 0 t) (blkOf V c 1 t) (blkOf V c 2 t) Y X
        (fun h => by have := (cond1_at t).1 h; omega) ((cond2_at t).2 h1) (fun h => by have := (cond3_at t).1 h; omega) K)
      isplitl [HH]; · iexact HH
      iintro HH
      iapply Hk
      iexists Y, _
      isplitr
      · ipureintro
        exact ⟨fun h => by omega, hnext⟩
      · iexact HH
    · iapply (last_run c (grid2.coords t) _ _ _ _ _ _ _ _ mem _ (blkOf V c 0 t) (blkOf V c 1 t) (blkOf V c 2 t) Y X
        (fun h => by have := (cond1_at t).1 h; omega) ((cond2_at t).2 h1) ((cond3_at t).2 h3) K)
      isplitl [HH]; · iexact HH
      iintro HH
      iapply Hk
      iexists (sumOf V c t), _
      isplitr
      · ipureintro
        exact ⟨fun _ => rfl, hnext⟩
      · have hlast : sumOf V c t = k2_pay4 (acc V c (t.val % 16) (f + 1)) (View.ld (blkOf V c 2 t : Vec F S1024 .f32) rb) := by
          obtain rfl : f = 2 := by omega
          rfl
        rw [hlast, ← hp]
        iexact HH

/-- The body at point `t`, from what it is handed to what it returns. -/
theorem body_at (c : Dev nD) (t : Fin cfg2.N) :
    handed V c t ⊢ wp frame (wpE (defs₀ (F := F)) Variants.none c none) Set.univ (bodyAt2 t) (fun _ => returned V c t) := by
  unfold handed returned
  simp only [before_0, before_1, before_2]
  rw [show (dat V c).Φ t.succ = Φ V c (t.val + 1) from rfl, show (dat V c).Φ t.castSucc = Φ V c t.val from rfl,
    show (dat V c).owesAt () t.succ = (dat V c).owesAt () t.castSucc from rfl, after_0, after_1, after_2]
  unfold Φ
  iintro ⟨⟨⟨⟨%X, %hX, HA⟩, HR⟩, Hp⟩, Hw, ⟨%d0, H0⟩, ⟨%d1, H1⟩, ⟨%d2, H2⟩, ⟨%Y, %hY, H3⟩⟩
  iapply (call V c t Y X hX _)
  isplitl [H0 H1 H2 H3 HA]
  · unfold held
    isplitl [H0]; · iexact H0
    isplitl [H1]; · iexact H1
    isplitl [H2]; · iexact H2
    isplitl [H3]; · iexact H3
    iexact HA
  unfold held
  iintro ⟨%Y', %X', %hR, H0, H1, H2, H3, HA⟩
  isplitl [HA HR Hp]
  · isplitr [Hp]
    · isplitr [HR]
      · iexists X'
        isplitr
        · ipureintro; exact hR.2
        · iexact HA
      · iexact HR
    · iexact Hp
  isplitl [Hw]; · iexact Hw
  isplitl [H0]; · iexact H0
  isplitl [H1]; · iexact H1
  isplitl [H2]; · iexact H2
  iexists Y'
  isplitr
  · ipureintro; exact hR.1
  · iexact H3

/-- The body obligation of the decoder's pipeline, at every point. -/
theorem obligation (c : Dev nD) : BodyObligationRel (dat V c) (defs₀ (F := F)) Variants.none () Set.univ fgt (Rl V c) := fun t => by
  rw [bigSep_W2, bigSep_W2, show defs₀ (F := F) .tc cfg2.body (cfg2.bodyArgs t (cfg2.slots t)) = bodyAt2 t by
    unfold defs₀; rw [Defs.onTc_tc]]
  exact triple_restated (body_at V c t) rfl .rfl fun _ => .rfl

end Cert.KernelIdeal.Dec

end
-- ==== Proof.Run.lean ====
/- The run of the whole program: the host operations, the three launches one after the other, and what memory holds at the end. -/
module

public import proofs.«01_k».proof.Proof.EncBlock
public import proofs.«01_k».proof.Proof.SelData
public import proofs.«01_k».proof.Proof.DecData
public import proofs.«01_k».proof.Proof.Gen.KernelIdeal.Regions
public import Idealize.ShloMosaic.Lib.Pipeline.RegionsLoop
public import Idealize.ShloMosaic.Lib.Pipeline.RegionArraysF
public import Idealize.ShloMosaic.Lib.Pipeline.FrameTail
public import Idealize.ShloMosaic.Lib.Pipeline.RegionArraysS

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg LaunchFacts)

variable {F : FTy → Type} [FloatOps F]

local notation "𝕄" => MT nD τ sig Unit (Elt F) ℕ (UR sig nD τ) ℕ

variable (m : (ℓ : Loc nD τ sig) → Buf (Elt F) ℓ)

/-! ## What the buffers hold between the items -/

/-- After the encoder's launch, after the selection's, and when the decoder's is entered. -/
abbrev W1 (c : Dev nD) : Valuation τ sig (Elt F) := V1 m c
def W2 (c : Dev nD) : Valuation τ sig (Elt F) := Pipeline.afterRegion (Enc.dat (W1 m) c) (W1 m c)
def W3 (c : Dev nD) : Valuation τ sig (Elt F) := Pipeline.afterRegion (Sel.dat (W2 m) c) (W2 m c)
def W4 (c : Dev nD) : Valuation τ sig (Elt F) := StableHlo.after hostOps2 (W3 m c)

/-- The three launches' proof data, and which windows are held to a statement only. -/
def pdats : (p : Fin 3) → (c : Dev nD) → Dat τ (Elt F) Unit ℕ (UR sig nD τ) ℕ (cfgs p) c
  | ⟨0, _⟩ => fun c => Enc.dat (W1 m) c
  | ⟨1, _⟩ => fun c => Sel.dat (W2 m) c
  | ⟨2, _⟩ => fun c => Dec.dat (W4 m) c
def fg : (p : Fin 3) → Fin (cfgs p).W → Bool
  | ⟨0, _⟩ => fun _ => false
  | ⟨1, _⟩ => fun _ => false
  | ⟨2, _⟩ => Dec.fgt
def rl : (p : Fin 3) → (c : Dev nD) → (w : Fin (cfgs p).W) → Fin (cfgs p).N → (((cfgs p).win w).block.Idx → Elt F ((cfgs p).win w).elt) → Prop
  | ⟨0, _⟩ => fun _ _ _ _ => True
  | ⟨1, _⟩ => fun _ _ _ _ => True
  | ⟨2, _⟩ => fun c => Dec.Rl (W4 m) c
def rdats (p : Fin 3) (c : Dev nD) : RDat τ (Elt F) Unit ℕ (UR sig nD τ) ℕ (cfgs p) c := (pdats m p c).toRRel (fg p) (rl m p c)

/-- No core owes another anything: no level is assigned. -/
abbrev L : GSem nD τ sig → Finset Unit := fun _ => ∅
abbrev lv : GSem nD τ sig → Unit → ℕ := fun _ _ => 0

/-- What rides beside the buffers: the generator register at something, the core owing nothing. -/
abbrev E (c : Dev nD) : sProp 𝕄 := iprop((∃ r, prngReg c r) ∗ ∃ W, owes (c : Thread nD τ) (0 : CellTallies nD τ sig Unit) W)

set_option backward.isDefEq.respectTransparency.types false in
/-- A launch as an item of the program: entered with the unscoped buffers at `W`, left with them at some `V'` that `Good` holds of,
    `Good` being shown of what the launch may leave in its arrays. -/
def item (p : Fin 3) (kit : LaunchFacts (nD := nD) (τ := τ) cfgs p) (W : Dev nD → Valuation τ sig (Elt F))
    (Good : Dev nD → Valuation τ sig (Elt F) → Prop)
    (hbody : ∀ c, (rdats m p c).BodyObligation (defs₀ (F := F)) Variants.none () Set.univ)
    (howed : ∀ c t, (pdats m p c).owed t = 0) (hrec : ∀ c, (pdats m p c).recorded 0 = Set.univ) (hshare : ∀ c w, (pdats m p c).share w = fullShare)
    (hA : ∀ c w, (pdats m p c).A w = W c (Proc.devRef .tc (Pipeline.arrRef (cfgs p).spec w)))
    (hin : ∀ c, Pipeline.ΦA (cfgs p).spec c ⊢ (pdats m p c).Φ 0) (hout : ∀ c, (pdats m p c).Φ (Fin.last (cfgs p).N) ⊢ Pipeline.ΦA (cfgs p).spec c)
    (hpost : ∀ (c : Dev nD) (A : (w : Fin (cfgs p).W) → Buf (Elt F) (((cfgs p).win w).arr.view.loc (c : Thread nD τ))),
      (∀ w, (rdats m p c).ArrAt w (cfgs p).N (A w)) → ∃ V', Good c V' ∧ (∀ w, A w = V' (Proc.devRef .tc (Pipeline.arrRef (cfgs p).spec w)))
        ∧ ∀ b, (∀ w, b ≠ Pipeline.arrRef (cfgs p).spec w) → V' (Proc.devRef .tc b) = W c (Proc.devRef .tc b)) :
    RDat.RegionSeg (pcfgs (F := F)) adm (rdats m) () defs₀ Variants.none L lv p where
  win := kit.win.to₀
  block_pos := kit.block_pos
  stage_whole := kit.stage_whole
  K := PEmpty
  osem := fun k => k.elim
  ho := Pipeline.OwnSemFacts.none _
  hbody := hbody
  hwaits := RDat.hwaits_of_owed_zero _ _ _ _ L lv p howed
  pre c := iprop(StableHlo.held (c : Thread nD τ) (Pipeline.ucRefs τ sig) (W c) ∗ E c)
  post c := iprop((∃ V', ⌜Good c V'⌝ ∗ StableHlo.held (c : Thread nD τ) (Pipeline.ucRefs τ sig) V') ∗ E c)
  X c := iprop(∃ r, prngReg c r)
  Y c := iprop(∃ r, prngReg c r)
  Z c := Pipeline.unscopedRest (Ix := Unit) (Name := ℕ) (U := UR sig nD τ) (Lvl := ℕ) (cfgs p).spec c (fun b => W c (Proc.devRef .tc b))
  hentry c := by
    rw [Pipeline.ownSems0_none,
      show StableHlo.held (c : Thread nD τ) (Pipeline.ucRefs τ sig) (W c) = unscopedBufs c (fun b => W c (Proc.devRef .tc b))
        from (Pipeline.unscopedBufs_held (Ix := Unit) (Name := ℕ) (U := UR sig nD τ) (Lvl := ℕ) c (W c)).symm]
    have hsplit := Pipeline.arrays_of_unscopedBufs (p := p) (pcfgs (F := F)) adm (pdats m) kit.win kit.arr_whole c (hshare c)
      (fun b => W c (Proc.devRef .tc b)) (fun w => hA c w)
    iintro ⟨⟨Hub, Hp, HO⟩, -, -⟩
    ihave H := hsplit $$ Hub
    icases H with ⟨Ha, Hrest⟩
    imodintro
    isplitl [Ha]
    · iapply (show ((pdats m p c).arrays (fun w => (pdats m p c).arrAt w 0) : sProp 𝕄) ⊢ (rdats m p c).arrays (rdats m p c).A from .rfl)
      iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · iapply (show (pdats m p c).owesAt () 0 ⊢ (rdats m p c).owesAt () 0 from .rfl)
      unfold Dat.owesAt Pipeline.owesWithin
      rw [howed c 0]
      icases HO with ⟨%W, HO⟩
      iexists W
      isplitr
      · ipureintro; exact fun _ _ => Or.inl (by rw [hrec c]; trivial)
      iexact HO
    isplitl [Hp]; · iexact Hp
    iexact Hrest
  hin c := (show _ ⊢ Pipeline.ΦA (cfgs p).spec c from by
    unfold Pipeline.ΦA; iintro ⟨Hp, -, Hr⟩
    isplitl [Hr] <;> iassumption).trans (hin c)
  hout c := (hout c).trans (by
    rw [Pipeline.ownSems0_none]; unfold Pipeline.ΦA
    iintro ⟨Hr, Hp⟩
    isplitl [Hp]; · iexact Hp
    isplitr; · iempintro
    iexact Hr)
  hexit c := by
    iintro ⟨Ha, HO, Hp, Hrest⟩
    have hopen : ((rdats m p c).arraysAt (cfgs p).N : sProp 𝕄) ⊢ iprop(∃ A : (w : Fin (cfgs p).W) → Buf (Elt F) (((cfgs p).win w).arr.view.loc (c : Thread nD τ)),
        ⌜∀ w, (rdats m p c).ArrAt w (cfgs p).N (A w)⌝ ∗ (pdats m p c).arrays A) := by
      unfold RDat.arraysAt Dat.arrays
      refine (BI.bigSep_exists_pi Finset.univ _).trans ?_
      iintro ⟨%A, H⟩
      ihave H' := (BI.bigSep_pure_sep Finset.univ (fun w => (rdats m p c).ArrAt w (cfgs p).N (A w)) _) $$ H
      icases H' with ⟨%hA, H⟩
      iexists A
      isplitr
      · ipureintro; exact fun w => hA w (Finset.mem_univ w)
      iexact H
    ihave Ha := hopen $$ Ha
    icases Ha with ⟨%A, %hAt, Ha⟩
    obtain ⟨V', hG, hV, hrest⟩ := hpost c A hAt
    have hjoin := Pipeline.unscopedBufs_of_arrays (p := p) (pcfgs (F := F)) adm (Ix := Unit) (Name := ℕ) (U := UR sig nD τ) (Lvl := ℕ)
      kit.win kit.arr_whole c (pdats m) (hshare c)
      (fun b => W c (Proc.devRef .tc b)) (fun b => V' (Proc.devRef .tc b)) A hV
      (fun b hb => hrest b fun w h => hb (h ▸ Finset.mem_image.mpr ⟨w, Finset.mem_univ _, rfl⟩))
    imodintro
    isplitl [Ha Hrest]
    · iexists V'
      isplitr; · ipureintro; exact hG
      rw [show StableHlo.held (c : Thread nD τ) (Pipeline.ucRefs τ sig) V' = unscopedBufs c (fun b => V' (Proc.devRef .tc b))
        from (Pipeline.unscopedBufs_held (Ix := Unit) (Name := ℕ) (U := UR sig nD τ) (Lvl := ℕ) c V').symm]
      iapply hjoin; isplitl [Ha] <;> iassumption
    isplitl [Hp]; · iexact Hp
    ihave HO := (show (rdats m p c).owesAt () (Fin.last (cfgs p).N) ⊢ (pdats m p c).owesAt () (Fin.last (cfgs p).N) from .rfl) $$ HO
    unfold Dat.owesAt Pipeline.owesWithin
    rw [howed c (Fin.last _)]
    icases HO with ⟨%W, -, HO⟩; iexists W; iexact HO

/-- What the decoder's launch may leave: the reconstruction's array after its last block, every other buffer as it was. -/
def Final (c : Dev nD) (V' : Valuation τ sig (Elt F)) : Prop :=
  (rdats m 2 c).ArrAt 3 cfg2.N (V' main_v5) ∧ ∀ b : Ref sig .tc, b ≠ main_v5 → V' b = W4 m c b

/-- A launch with exact data leaves its arrays at the data's `arrAt`. -/
theorem exact_post (p : Fin 3) (kit : LaunchFacts (nD := nD) (τ := τ) cfgs p) (W : Valuation τ sig (Elt F)) (c : Dev nD)
    (hfg : rdats m p c = (pdats m p c).toR)
    (A : (w : Fin (cfgs p).W) → Buf (Elt F) (((cfgs p).win w).arr.view.loc (c : Thread nD τ))) (hAt : ∀ w, (rdats m p c).ArrAt w (cfgs p).N (A w)) :
    ∃ V', V' = Pipeline.afterRegion (pdats m p c) W ∧ (∀ w, A w = V' (Proc.devRef .tc (Pipeline.arrRef (cfgs p).spec w)))
      ∧ ∀ b, (∀ w, b ≠ Pipeline.arrRef (cfgs p).spec w) → V' (Proc.devRef .tc b) = W (Proc.devRef .tc b) := by
  refine ⟨_, rfl, fun w => ?_, fun b hb => Pipeline.afterRegion_of_not_arr _ _ hb⟩
  rw [Pipeline.afterRegion_arr (pdats m p c) W kit.win.arr_inj w]
  have h := hAt w
  rw [hfg] at h
  exact Dat.toR_arrAt _ w _ _ h

def item0 := item m 0 launch0 (W1 m) (fun c V' => V' = W2 m c)
  (fun c => (Enc.obligation (W1 m) c).loose.toR) (fun _ _ => rfl) (fun _ => rfl) (fun c => (Enc.dat (W1 m) c).share_full fun _ => rfl) (fun _ _ => rfl)
  (fun _ => .rfl) (fun _ => .rfl) (fun c A h => exact_post m 0 launch0 (W1 m c) c rfl A h)

def item1 := item m 1 launch1 (W2 m) (fun c V' => V' = W3 m c)
  (fun c => (Sel.obligation (W2 m) c).loose.toR) (fun _ _ => rfl) (fun _ => rfl) (fun c => (Sel.dat (W2 m) c).share_full fun _ => rfl) (fun _ _ => rfl)
  (fun _ => .rfl) (fun _ => .rfl) (fun c A h => exact_post m 1 launch1 (W2 m c) c rfl A h)

/-- The accumulator, at anything. -/
def accumulator (c : Dev nD) : sProp 𝕄 := iprop(∃ d, owns (c : Thread nD τ) (Memref.whole cc2_scratch0) fullShare d)

theorem dec_split (c : Dev nD) : (Pipeline.ΦA (Val := Elt F) (U := UR sig nD τ) spec2 c : sProp 𝕄)
    = iprop((accumulator c ∗ Pipeline.scopedRestBut (Ix := Unit) (Name := ℕ) (U := UR sig nD τ) (Lvl := ℕ) (Val := Elt F) spec2 c
        [cc2_scratch0]) ∗ ∃ r, prngReg c r) := by
  unfold Pipeline.ΦA accumulator
  rw [Pipeline.scopedRest_split_of_list spec2 c [cc2_scratch0] (by decide) (by decide)]
  simp only [owns_whole]
  rfl

def item2 := item m 2 launch2 (W4 m) (Final m)
  (fun c => (Dec.obligation (W4 m) c).toRRel) (fun _ _ => rfl) (fun _ => rfl) (fun c => (Dec.dat (W4 m) c).share_full fun _ => rfl) (fun _ _ => rfl)
  (fun c => by
    show Pipeline.ΦA spec2 c ⊢ Dec.Φ (W4 m) c 0
    rw [dec_split]; unfold Dec.Φ accumulator owns
    iintro ⟨⟨⟨%_d, %X, -, HX⟩, Hr⟩, Hp⟩
    isplitr [Hp]
    · isplitl [HX]
      · iexists X
        isplitr
        · ipureintro; exact fun s f h => absurd h (by omega)
        iexact HX
      iexact Hr
    iexact Hp)
  (fun c => by
    show Dec.Φ (W4 m) c cfg2.N ⊢ Pipeline.ΦA spec2 c
    rw [dec_split]; unfold Dec.Φ accumulator owns
    iintro ⟨⟨⟨%X, -, HX⟩, Hr⟩, Hp⟩
    isplitr [Hp]
    · isplitl [HX]
      · iexists (Dec.mem.view.read (Elt F) X), X
        isplitr
        · ipureintro; rfl
        iexact HX
      iexact Hr
    iexact Hp)
  (fun c A h => by
    refine ⟨Function.update (W4 m c) main_v5 (A 3), ⟨?_, fun b hb => ?_⟩, fun w => ?_, fun b hb => ?_⟩
    · rw [Function.update_self]; exact h 3
    · exact Function.update_of_ne (fun e => hb (Proc.devRef_injective _ e)) _ _
    · have hother (w : Fin cfg2.W) (hw : (cfg2.win w).isOut = false) (hne : Pipeline.arrRef spec2 w ≠ main_v5) :
          A w = Function.update (W4 m c) (Proc.devRef .tc main_v5) (A 3) (Proc.devRef .tc (Pipeline.arrRef spec2 w)) := by
        have hw' := h w
        rw [RDat.ArrAt_in _ w hw] at hw'
        refine hw'.trans ?_
        rw [Function.update_of_ne (fun e => hne (Proc.devRef_injective _ e))]
        rfl
      match w with
      | ⟨0, _⟩ => exact hother 0 rfl (by decide)
      | ⟨1, _⟩ => exact hother 1 rfl (by decide)
      | ⟨2, _⟩ => exact hother 2 rfl (by decide)
      | ⟨3, _⟩ => exact (Function.update_self (Proc.devRef .tc main_v5) (A 3) (W4 m c)).symm
    · exact Function.update_of_ne (fun e => hb 3 (Proc.devRef_injective _ e)) _ _)

/-! ## The program -/

def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

/-- The program's five items. -/
def items : List (RDat.Seg (pcfgs (F := F)) adm (rdats m) () defs₀ Variants.none L lv) :=
  [.host (host0 m), .region (item0 m), .region (item1 m), .host (host2 m), .region (item2 m)]

/-- A launch's end, its valuation named, is the next item's start. -/
theorem named (c : Dev nD) (V : Valuation τ sig (Elt F)) :
    iprop((∃ V', ⌜V' = V⌝ ∗ StableHlo.held (c : Thread nD τ) (Pipeline.ucRefs τ sig) V') ∗ E c)
      ⊢ iprop(StableHlo.held (c : Thread nD τ) (Pipeline.ucRefs τ sig) V ∗ E (F := F) c) := by
  iintro ⟨⟨%V', %h, H⟩, HE⟩
  subst h
  isplitl [H] <;> iassumption

/-- THE RUN. From any memory with zero counters the program ends, every counter at zero again, and every core's unscoped buffers at
    some contents that the decoder's launch may leave over what the earlier items left. -/
theorem run_main (ρ : Dev nD → PrngReg) :
    θ_run (defs (F := F)) (onTc (τ := τ) (main (F := F))) ⟨m, fun _ => 0, ρ⟩ (fun r => (∀ c : Dev nD, ∃ V', Final m c V' ∧
      ∀ b ∈ Pipeline.ucRefs τ sig, r.2.mem ((c.tc : Thread nD τ).1, b) = V' b) ∧ r.2.sem = fun _ => 0) := by
  refine RDat.θ_run_regions_kit_dev_sems (pcfgs (F := F)) adm (rdats m) () cellOf_inj emb₁ defs₀ Variants.none L lv m ρ main
    (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => iprop(∃ V', ⌜Final m c V'⌝ ∗ StableHlo.held (c : Thread nD τ) (Pipeline.ucRefs τ sig) V'))
    (hch := fun c => ⟨.rfl, .rfl, named c _, named c _, .rfl, ?_⟩)
    (hinit := ?_)
    (QY := fun c s => ∃ V', Final m c V' ∧ ∀ b ∈ Pipeline.ucRefs τ sig, s.mem ((c.tc : Thread nD τ).1, b) = V' b)
    (hfin := fun c s' => ?_) (hQ := fun _ h hz => ⟨h, funext fun g => hz g (.inr (regions_no_unscoped g.2))⟩)
  · show iprop((∃ V', ⌜Final m c V'⌝ ∗ StableHlo.held (c : Thread nD τ) (Pipeline.ucRefs τ sig) V') ∗ E c) ⊢ (_ : sProp 𝕄)
    iintro ⟨H, -, HO⟩
    isplitl [H] <;> iassumption
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]
    · iexact Hh
    isplitl [Hp]
    · iexists _; iexact Hp
    iexists _; iexact HO
  · iintro ⟨⟨%V', %hV, Hh⟩, HSI⟩
    unfold StableHlo.held
    ihave Hr := (pointsTo_read_all (Pipeline.ucRefs τ sig) (fun b => ((c.tc : Thread nD τ).1, b)) V' s') $$ [Hh HSI]
    · isplitl [Hh] <;> iassumption
    icases Hr with ⟨%h, HSI⟩
    imodintro
    isplitr
    · ipureintro; exact ⟨V', hV, h⟩
    iexact HSI

end Cert.KernelIdeal.Run

end
-- ==== Proof.Ends.lean ====
/- What the run's last contents are: the arguments as launched, the selection's two results and the reconstruction as their launches left them. -/
module

public import proofs.«01_k».proof.Proof.Run

@[expose] public section

noncomputable section

namespace Cert.KernelIdeal.Run

open Cert.KernelIdeal.Gen
open Idealize.ShloMosaic Idealize.ShloMosaic.TcCoe
open Idealize.SL.Sem
open Idealize.ShloMosaic.Pipeline (Dat RDat)

variable {F : FTy → Type} [FloatOps F]
variable (m : (ℓ : Loc nD τ sig) → Buf (Elt F) ℓ)

/-- A buffer that no launch and no host operation writes is as launched when the decoder's launch is entered. -/
theorem W4_keeps (c : Dev nD) (b : Ref sig .tc) (h0 : b ∉ hostOps0_W) (h1 : ∀ w, Pipeline.arrRef spec0 w = b → (cfg0.win w).isOut = false)
    (h2 : ∀ w, Pipeline.arrRef spec1 w = b → (cfg1.win w).isOut = false) (h3 : b ∉ hostOps2_W) :
    W4 m c b = m ((c : Thread nD τ).loc b) := by
  refine (StableHlo.after_of_writes_sub hostOps2 _ hostOps2_writes h3).trans ?_
  refine (Pipeline.afterRegion_keeps (Sel.dat (W2 m) c) (W2 m c) winFacts1.arr_inj (fun _ => rfl) b h2).trans ?_
  refine (Pipeline.afterRegion_keeps (Enc.dat (W1 m) c) (W1 m c) winFacts0.arr_inj (fun _ => rfl) b h1).trans ?_
  exact V1_of m c b h0

theorem W2_v2 (c : Dev nD) : W2 m c main_v2 = (Enc.dat (W1 m) c).arrAt 3 cfg0.N :=
  Pipeline.afterRegion_arr (Enc.dat (W1 m) c) (W1 m c) winFacts0.arr_inj 3
theorem W4_mask (c : Dev nD) : W4 m c main_v3_0 = (Sel.dat (W2 m) c).arrAt 1 cfg1.N :=
  (StableHlo.after_of_writes_sub hostOps2 _ hostOps2_writes (by decide)).trans
    (Pipeline.afterRegion_arr (Sel.dat (W2 m) c) (W2 m c) winFacts1.arr_inj 1)
theorem W4_out (c : Dev nD) : W4 m c main_v3_1 = (Sel.dat (W2 m) c).arrAt 2 cfg1.N :=
  (StableHlo.after_of_writes_sub hostOps2 _ hostOps2_writes (by decide)).trans
    (Pipeline.afterRegion_arr (Sel.dat (W2 m) c) (W2 m c) winFacts1.arr_inj 2)

/-- The run, its end spelt out: the reconstruction's array is one the decoder's launch may leave, the mask and the kept activations are the
    selection's arrays, every argument is as launched, every counter zero. -/
theorem run_ends (ρ : Dev nD → PrngReg) :
    θ_run (defs (F := F)) (onTc (τ := τ) (main (F := F))) ⟨m, fun _ => 0, ρ⟩ (fun r => (∀ c : Dev nD,
      ((rdats m 2 c).ArrAt 3 cfg2.N (r.2.mem ((c.tc : Thread nD τ).loc main_v5))
        ∧ r.2.mem ((c.tc : Thread nD τ).loc main_v3_1) = (Sel.dat (W2 m) c).arrAt 2 cfg1.N
        ∧ r.2.mem ((c.tc : Thread nD τ).loc main_v3_0) = (Sel.dat (W2 m) c).arrAt 1 cfg1.N)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)))
      ∧ r.2.sem = fun _ => 0) := by
  refine (θ_run (defs (F := F)) _ _).mono (fun r h => ⟨fun c => ?_, h.2⟩) (run_main m ρ)
  obtain ⟨V', ⟨h5, hV⟩, hb⟩ := h.1 c
  have hin (b : Ref sig .tc) (hs : b.isScoped = false) : r.2.mem ((c.tc : Thread nD τ).loc b) = V' b :=
    hb (Proc.devRef .tc b) (Pipeline.devRef_mem_ucRefs hs)
  have hkeep (b : Ref sig .tc) (hs : b.isScoped = false) (hne : b ≠ main_v5) (h0 : b ∉ hostOps0_W)
      (h1 : ∀ w, Pipeline.arrRef spec0 w = b → (cfg0.win w).isOut = false)
      (h2 : ∀ w, Pipeline.arrRef spec1 w = b → (cfg1.win w).isOut = false) (h3 : b ∉ hostOps2_W) :
      r.2.mem ((c.tc : Thread nD τ).loc b) = m ((c : Thread nD τ).loc b) :=
    (hin b hs).trans ((hV b hne).trans (W4_keeps m c b h0 h1 h2 h3))
  refine ⟨⟨?_, ?_, ?_⟩, ?_, ?_, ?_, ?_, ?_⟩
  · rw [hin main_v5 rfl]; exact h5
  · exact (hin main_v3_1 rfl).trans ((hV main_v3_1 (by decide)).trans (W4_out m c))
  · exact (hin main_v3_0 rfl).trans ((hV main_v3_0 (by decide)).trans (W4_mask m c))
  · exact hkeep main_arg0 rfl (by decide) (by decide) (by decide) (by decide) (by decide)
  · exact hkeep main_arg1 rfl (by decide) (by decide) (by decide) (by decide) (by decide)
  · exact hkeep main_arg2 rfl (by decide) (by decide) (by decide) (by decide) (by decide)
  · exact hkeep main_arg3 rfl (by decide) (by decide) (by decide) (by decide) (by decide)
  · exact hkeep main_arg4 rfl (by decide) (by decide) (by decide) (by decide) (by decide)

end Cert.KernelIdeal.Run

end
-- ==== Proof.Scalars.lean ====
/-
  The constants of the kernel and of the precondition as extended reals, the zero-or-one value of a comparison, and the
  greatest and the least entry of a row.
-/
module

public import Idealize.ShloMosaic.Lib.Pointwise

@[expose] public section

noncomputable section

namespace Cert.Scalars

open Idealize.ShloMosaic

theorem half : Ideal.ofBits .f32 0x3F000000#32 = ((1 / 2 : ℝ) : EReal) := by
  simp [Ideal.ofBits, Ideal.ieee, ← EReal.coe_mul]; norm_num

theorem thirtyTwo : Ideal.ofBits .f32 0x42000000#32 = ((32 : ℝ) : EReal) := by
  simp [Ideal.ofBits, Ideal.ieee, ← EReal.coe_mul]; norm_num

theorem thirtyThree : Ideal.ofBits .f32 0x42040000#32 = ((33 : ℝ) : EReal) := by
  simp [Ideal.ofBits, Ideal.ieee, ← EReal.coe_mul]; norm_num

theorem two26 : Ideal.ofBits .f32 0x4C800000#32 = (((2 ^ 26 : ℝ)) : EReal) := by
  have e : Ideal.ofBits .f32 0x4C800000#32 = ((67108864 : ℝ) : EReal) := by
    simp [Ideal.ofBits, Ideal.ieee, ← EReal.coe_mul]; norm_num
  rw [e]; norm_num

theorem least : Ideal.ofBits .f32 0xFF800000#32 = ⊥ := by simp [Ideal.ofBits, Ideal.ieee]

theorem greatest : Ideal.ofBits .f32 0x7F800000#32 = ⊤ := by simp [Ideal.ofBits, Ideal.ieee]

/-- A comparison's word, widened and read as a number, is one where it holds and zero elsewhere. -/
theorem indicator (p : Prop) [Decidable p] :
    FloatOps.sitofp (F := Ideal) .f32 (BitVec.setWidth 32 (BitVec.ofBool (decide p))) = if p then (1 : EReal) else 0 := by
  show ((((BitVec.setWidth 32 (BitVec.ofBool (decide p))).toInt : ℝ)) : EReal) = _
  by_cases h : p <;> simp [h]

/-- The fold of maxima from the least value is an entry, and no entry is greater. -/
theorem fold_max {n : ℕ} (f : Fin (n + 1) → EReal) :
    (∃ i, Finset.univ.fold max ⊥ f = f i) ∧ ∀ i, f i ≤ Finset.univ.fold max ⊥ f := by
  have e : Finset.univ.fold max ⊥ f = Finset.univ.sup f := rfl
  rw [e]
  refine ⟨?_, fun i => Finset.le_sup (Finset.mem_univ i)⟩
  obtain ⟨i, -, h⟩ := Finset.exists_mem_eq_sup _ Finset.univ_nonempty f
  exact ⟨i, h⟩

/-- The fold of minima from the greatest value is an entry, and no entry is less. -/
theorem fold_min {n : ℕ} (f : Fin (n + 1) → EReal) :
    (∃ i, Finset.univ.fold min ⊤ f = f i) ∧ ∀ i, Finset.univ.fold min ⊤ f ≤ f i := by
  have e : Finset.univ.fold min ⊤ f = Finset.univ.inf f := rfl
  rw [e]
  refine ⟨?_, fun i => Finset.inf_le (Finset.mem_univ i)⟩
  obtain ⟨i, -, h⟩ := Finset.exists_mem_eq_inf _ Finset.univ_nonempty f
  exact ⟨i, h⟩

end Cert.Scalars

end
-- ==== Proof.Row.lean ====
/-
  Halving an interval until exactly 32 entries of a row exceed its upper end.

  A row is a function `v` from positions to extended reals and `above v t` counts the entries over `t`. The lower end of
  the interval always has at least 33 entries over it and the upper end at most 32. A halving keeps both, and a row whose
  upper end has met 32 is left alone. When the 32nd and the 33rd greatest entries lie far enough apart, the upper end has
  exactly 32 entries over it after 26 halvings.
-/
module

public import Idealize.ShloMosaic.PureOps.Ideal.Laws

@[expose] public section

noncomputable section

namespace Cert.Row

open Finset

variable {n k : ℕ}

/-- How many entries of the row exceed `t`. -/
def above (v : Fin n → EReal) (t : EReal) : ℕ := (univ.filter fun j => t < v j).card

/-- Half the sum of two values. -/
def mid (a b : EReal) : EReal := ((1 / 2 : ℝ) : EReal) * (a + b)

/-- Half the sum of two reals is their mean. -/
theorem mid_coe (a b : ℝ) : mid a b = (((a + b) / 2 : ℝ) : EReal) := by
  unfold mid; rw [← EReal.coe_add, ← EReal.coe_mul]; congr 1; ring

/-- A higher threshold has no more entries over it. -/
theorem above_anti (v : Fin n → EReal) {s t : EReal} (h : s ≤ t) : above v t ≤ above v s :=
  card_le_card fun j hj => by simp only [mem_filter, mem_univ, true_and] at hj ⊢; exact h.trans_lt hj

/-- Two thresholds with as many entries over them have the same entries over them. -/
theorem above_eq_iff (v : Fin n → EReal) {s t : EReal} (h : above v s = above v t) (j : Fin n) : s < v j ↔ t < v j := by
  have key : ∀ {s t : EReal}, s ≤ t → above v s = above v t → (s < v j ↔ t < v j) := by
    intro s t hst h
    have hsub : (univ.filter fun j => t < v j) ⊆ univ.filter fun j => s < v j := fun j hj => by
      simp only [mem_filter, mem_univ, true_and] at hj ⊢; exact hst.trans_lt hj
    have := eq_of_subset_of_card_le hsub h.le
    have hj := Finset.ext_iff.1 this j
    simpa using hj.symm
  rcases le_total s t with hst | hst
  · exact key hst h
  · exact (key hst h.symm).symm

/-- Entries picked from a row at different positions exceed a threshold no more often than the row's. -/
theorem above_comp_le (v : Fin n → EReal) (f : Fin k → Fin n) (hf : Function.Injective f) (t : EReal) : above (v ∘ f) t ≤ above v t := by
  refine card_le_card_of_injOn f (fun j hj => ?_) hf.injOn
  simp only [coe_filter, mem_univ, true_and, Set.mem_setOf_eq, Function.comp] at hj ⊢; exact hj

/-- The sum of ones over the entries exceeding `t` is their number. -/
theorem sum_above (v : Fin n → EReal) (t : EReal) : ∑ j, (if t < v j then (1 : EReal) else 0) = (above v t : EReal) := by
  unfold above; rw [Finset.sum_boole]

/-- One halving: the middle replaces the lower end when at least 33 entries exceed it, else the upper end. -/
def halve (v : Fin n → EReal) (s : EReal × EReal) : EReal × EReal :=
  if 33 ≤ above v (mid s.1 s.2) then (mid s.1 s.2, s.2) else (s.1, mid s.1 s.2)

/-- The coarse interval: real ends no lower than `z`, at least 33 entries over the lower one. -/
def Rough (v : Fin n → EReal) (z : ℝ) (s : EReal × EReal) : Prop :=
  ∃ a b : ℝ, s = (↑a, ↑b) ∧ z ≤ a ∧ z ≤ b ∧ 33 ≤ above v a

/-- A halving keeps the coarse interval's properties. -/
theorem Rough.halve {v : Fin n → EReal} {z : ℝ} {s : EReal × EReal} (h : Rough v z s) : Rough v z (halve v s) := by
  obtain ⟨a, b, rfl, ha, hb, hc⟩ := h
  unfold Row.halve
  simp only [mid_coe]
  split
  · rename_i hm; exact ⟨_, b, rfl, by linarith, hb, hm⟩
  · exact ⟨a, _, rfl, ha, by linarith, hc⟩

/-- So do any number of halvings. -/
theorem Rough.iterate {v : Fin n → EReal} {z : ℝ} {s : EReal × EReal} (h : Rough v z s) (m : ℕ) : Rough v z ((Row.halve v)^[m] s) := by
  induction m generalizing s with
  | zero => exact h
  | succ m ih => exact ih h.halve

/-- The fine interval after `m` halvings of one `w` wide, with the row's finished mark: at least 33 entries over the lower end and at
    most 32 over the upper; finished and exactly 32 over the upper end, or not finished and `w / 2 ^ m` wide. -/
def Fine (v : Fin n → EReal) (w : ℝ) (m : ℕ) (s : EReal × EReal × EReal) : Prop :=
  ∃ a b : ℝ, s.1 = a ∧ s.2.1 = b ∧ 33 ≤ above v a ∧ above v b ≤ 32 ∧
    ((s.2.2 = 1 ∧ above v b = 32) ∨ (s.2.2 = 0 ∧ b - a = w / 2 ^ m))

/-- One fine halving of a row: nothing but the mark's copy when finished. -/
def step (v : Fin n → EReal) (s : EReal × EReal × EReal) : EReal × EReal × EReal :=
  if s.2.2 = 1 then s
  else ((halve v (s.1, s.2.1)).1, (halve v (s.1, s.2.1)).2, if above v (mid s.1 s.2.1) = 32 then 1 else 0)

/-- A finished row's interval serves any number of halvings. -/
theorem Fine.of_done {v : Fin n → EReal} {w : ℝ} {m : ℕ} {s : EReal × EReal × EReal} (h : Fine v w m s) (hd : s.2.2 = 1) (m' : ℕ) :
    Fine v w m' s := by
  obtain ⟨a, b, h1, h2, h3, h4, h5⟩ := h
  refine ⟨a, b, h1, h2, h3, h4, ?_⟩
  rcases h5 with h5 | ⟨h0, -⟩
  · exact .inl h5
  · exact absurd (h0.symm.trans hd) zero_ne_one

/-- A finished mark is one or zero. -/
theorem Fine.mark {v : Fin n → EReal} {w : ℝ} {m : ℕ} {s : EReal × EReal × EReal} (h : Fine v w m s) : s.2.2 = 1 ∨ s.2.2 = 0 := by
  obtain ⟨a, b, -, -, -, -, h5⟩ := h
  rcases h5 with h5 | h5
  · exact .inl h5.1
  · exact .inr h5.1

/-- A fine halving keeps the interval's properties. -/
theorem Fine.step {v : Fin n → EReal} {w : ℝ} {m : ℕ} {s : EReal × EReal × EReal} (h : Fine v w m s) : Fine v w (m + 1) (step v s) := by
  unfold Row.step
  split
  · rename_i hd; exact h.of_done hd _
  · rename_i hd
    obtain ⟨lo, hi, dn⟩ := s
    obtain ⟨a, b, rfl, rfl, h3, h4, h5⟩ := h
    have hw : b - a = w / 2 ^ m := by
      rcases h5 with h5 | h5
      · exact absurd h5.1 hd
      · exact h5.2
    simp only [halve, mid_coe]
    by_cases hm : 33 ≤ above v (((a + b) / 2 : ℝ) : EReal)
    · rw [if_pos hm, if_neg (by omega)]
      refine ⟨_, b, rfl, rfl, hm, h4, .inr ⟨rfl, ?_⟩⟩
      rw [pow_succ, ← div_div, ← hw]; ring
    · rw [if_neg hm]
      refine ⟨a, _, rfl, rfl, h3, by omega, ?_⟩
      by_cases he : above v (((a + b) / 2 : ℝ) : EReal) = 32
      · exact .inl ⟨by simp [he], he⟩
      · refine .inr ⟨by simp [he], ?_⟩
        rw [pow_succ, ← div_div, ← hw]; ring

/-- The row's 32nd and 33rd greatest entries, `p` and `q`, lie further apart than the 2^26th part of one more than the row's spread. -/
structure Gap (v : Fin n → EReal) (lo hi p q : ℝ) : Prop where
  lo_le : ∀ j, (lo : EReal) ≤ v j
  le_hi : ∀ j, v j ≤ (hi : EReal)
  many : 32 ≤ (univ.filter fun j => (p : EReal) ≤ v j).card
  few : above v q ≤ 32
  wide : hi - lo + 1 < (p - q) * 2 ^ 26

namespace Gap

variable {v : Fin n → EReal} {lo hi p q : ℝ} (g : Gap v lo hi p q)
include g

/-- Entries of such a row are real. -/
theorem real (j : Fin n) : ∃ a : ℝ, v j = a := by
  have h1 := g.lo_le j
  have h2 := g.le_hi j
  exact ⟨(v j).toReal, (EReal.coe_toReal (fun e => by rw [e] at h2; exact absurd h2 (by simp))
    (fun e => by rw [e] at h1; exact absurd h1 (by simp))).symm⟩

/-- The row's spread is not negative, unless the row is empty. -/
theorem spread (j : Fin n) : lo ≤ hi := EReal.coe_le_coe_iff.1 ((g.lo_le j).trans (g.le_hi j))

/-- The two entries differ. -/
theorem lt (j : Fin n) : q < p := by
  have := g.spread j; have := g.wide
  nlinarith

/-- Exactly 32 entries exceed the 33rd greatest. -/
theorem above_q (j : Fin n) : above v q = 32 := by
  refine le_antisymm g.few (g.many.trans (card_le_card fun i hi => ?_))
  simp only [mem_filter, mem_univ, true_and] at hi ⊢
  exact (EReal.coe_lt_coe_iff.2 (g.lt j)).trans_le hi

/-- After 26 fine halvings, exactly 32 entries exceed the upper end. -/
theorem above_upper {w : ℝ} {s : EReal × EReal × EReal} (h : Fine v w 26 s) (hw : w ≤ hi - lo + 1) : above v s.2.1 = 32 := by
  obtain ⟨a, b, h1, h2, h3, h4, h5⟩ := h
  rw [h2]
  rcases h5 with h5 | ⟨-, h5⟩
  · exact h5.2
  · by_contra hne
    have hb : p ≤ b := by
      by_contra hlt
      have : 32 ≤ above v b := g.many.trans (card_le_card fun i hi => by
        simp only [mem_filter, mem_univ, true_and] at hi ⊢
        exact (EReal.coe_lt_coe_iff.2 (not_le.1 hlt)).trans_le hi)
      omega
    have ha : a < q := by
      by_contra hle
      have := above_anti v (EReal.coe_le_coe_iff.2 (not_lt.1 hle))
      have := g.few
      omega
    have := g.wide
    have h6 : (b - a) * 2 ^ 26 = w := by rw [h5]; field_simp
    nlinarith

end Gap

end Cert.Row

end
-- ==== Proof.TopK.lean ====
/-
  The first entries of a row in descending order, as the reference and the precondition take them.

  `order v` lists the positions of the row `v`, greatest entry first. The values and the indices of a top-k are the first
  `k` positions' entries and words. When the entries at positions 31 and 32 differ as the precondition asks, the first 32
  positions are those whose entries exceed the one at position 32.
-/
module

public import proofs.«01_k».proof.Proof.Scalars
public import proofs.«01_k».proof.Proof.Row
public import Idealize.ShloMosaic.Lib.SortFacts

@[expose] public section

set_option maxRecDepth 16384

noncomputable section

namespace Cert.TopK

open Idealize.ShloMosaic Cert.Row

variable {n m : ℕ}

/-- The positions of a row, greatest entry first. -/
def order (v : Fin n → EReal) : Fin n → Fin n := sortedFrom fun a b => decide (v b < v a)

/-- Different places hold different positions. -/
theorem order_injective (v : Fin n → EReal) : Function.Injective (order v) := sortedFrom_injective _

/-- Every position has a place. -/
theorem order_surjective (v : Fin n → EReal) : Function.Surjective (order v) := sortedFrom_surjective _

/-- An earlier place holds no lesser entry. -/
theorem order_anti (v : Fin n → EReal) {i j : Fin n} (h : i ≤ j) : v (order v j) ≤ v (order v i) := by
  rcases h.lt_or_eq with h | rfl
  · have := sortedFrom_noInversion (fun a b => decide (v b < v a)) (fun a b => decide (v b < v a)) (fun a b hab => by simp at hab ⊢; exact hab.le)
      (fun _ _ h => h) (fun a b c hab hbc => by simp at hab hbc ⊢; exact hab.trans hbc) i j h
    exact not_lt.mp (of_decide_eq_false this)
  · exact le_rfl

/-- Row `r` of a matrix. -/
def row (x : FVec Ideal ⟨2, ![m, n]⟩ .f32) (r : Fin m) : Fin n → EReal := fun j => x (ix2 r j)

/-- The order a sort by the total comparison takes a row in. -/
theorem order_sorts (x : FVec Ideal ⟨2, ![m, n]⟩ .f32) (y : (⟨2, ![m, n]⟩ : Shape).Idx → BitVec 32) (j : (⟨2, ![m, n]⟩ : Shape).Idx) :
    sortedFrom (fun k k' : Fin n =>
      (fun l r : EReal × BitVec 32 => FloatOps.cmpfTotal (F := Ideal) (φ := .f32) .gt l.1 r.1) (x (j.along 1 k), y (j.along 1 k))
        (x (j.along 1 k'), y (j.along 1 k')) == 1#1) = order (row x (j 0)) := by
  have hs : ∀ q : Fin n, j.along 1 q = ix2 (j 0) q := by
    intro q
    unfold Shape.Idx.along
    funext a
    match a with
    | ⟨0, _⟩ => rfl
    | ⟨1, _⟩ => rfl
  unfold order
  congr 1
  funext k k'
  rw [hs, hs]
  show (BitVec.ofBool (decide (x (ix2 (j 0) k') < x (ix2 (j 0) k))) == 1#1) = _
  unfold row
  cases decide (x (ix2 (j 0) k') < x (ix2 (j 0) k)) <;> rfl

/-- The sorted entries and positions at an index. -/
theorem sort_apply (x : FVec Ideal ⟨2, ![m, n]⟩ .f32) (y : (⟨2, ![m, n]⟩ : Shape).Idx → BitVec 32) (r : Fin m) (c : Fin n) :
    (Host.sort2 ⟨2, ![m, n]⟩ 1 (fun l r : EReal × BitVec 32 => FloatOps.cmpfTotal (F := Ideal) (φ := .f32) .gt l.1 r.1) x y).1 (ix2 r c)
        = x (ix2 r (order (row x r) c))
    ∧ (Host.sort2 ⟨2, ![m, n]⟩ 1 (fun l r : EReal × BitVec 32 => FloatOps.cmpfTotal (F := Ideal) (φ := .f32) .gt l.1 r.1) x y).2 (ix2 r c)
        = y (ix2 r (order (row x r) c)) := by
  have e : ∀ π : Fin n → Fin n, π = order (row x r) → (ix2 r c : (⟨2, ![m, n]⟩ : Shape).Idx).along 1 (π c) = ix2 r (order (row x r) c) := by
    rintro _ rfl
    unfold Shape.Idx.along
    funext a
    match a with
    | ⟨0, _⟩ => rfl
    | ⟨1, _⟩ => rfl
  have := e _ (order_sorts x y (ix2 r c))
  unfold Host.sort2
  exact ⟨congrArg x this, congrArg y this⟩

/-- A leading slice of the columns at an index. -/
theorem slice_apply {α : Type} {k : ℕ} (x : (⟨2, ![m, n]⟩ : Shape).Idx → α) (h : (⟨2, ![m, n]⟩ : Shape).Slices (fun _ => 0) ⟨2, ![m, k]⟩)
    (hk : k ≤ n) (r : Fin m) (c : Fin k) :
    extractStridedSlice ⟨2, ![m, k]⟩ (fun _ => 0) x h (ix2 r c) = x (ix2 r (c.castLE hk)) := by
  unfold extractStridedSlice
  congr 1
  funext a
  match a with
  | ⟨0, _⟩ => exact Fin.ext (Nat.zero_add _)
  | ⟨1, _⟩ => exact Fin.ext (Nat.zero_add _)

/-- Each entry's position in its row, as a word. -/
def positions (m n : ℕ) : (⟨2, ![m, n]⟩ : Shape).Idx → BitVec 32 :=
  fun i => if hd : 1 < (⟨2, ![m, n]⟩ : Shape).rank then iotaInDim ⟨2, ![m, n]⟩ 32 ⟨1, hd⟩ i else 0#32

/-- The values of a top-k are the entries at the first places. -/
theorem values_apply {k : ℕ} (x : FVec Ideal ⟨2, ![m, n]⟩ .f32) (h : (⟨2, ![m, n]⟩ : Shape).Slices (fun _ => 0) ⟨2, ![m, k]⟩) (hk : k ≤ n)
    (r : Fin m) (c : Fin k) :
    (Host.topK ⟨2, ![m, k]⟩ 1 (FloatOps.cmpfTotal (F := Ideal) (φ := .f32) .gt) x h).1 (ix2 r c) = row x r (order (row x r) (c.castLE hk)) :=
  (slice_apply _ h hk r c).trans (sort_apply x (positions m n) r (c.castLE hk)).1

/-- The indices of a top-k are the words of the positions at the first places. -/
theorem indices_apply {k : ℕ} (x : FVec Ideal ⟨2, ![m, n]⟩ .f32) (h : (⟨2, ![m, n]⟩ : Shape).Slices (fun _ => 0) ⟨2, ![m, k]⟩) (hk : k ≤ n)
    (r : Fin m) (c : Fin k) :
    (Host.topK ⟨2, ![m, k]⟩ 1 (FloatOps.cmpfTotal (F := Ideal) (φ := .f32) .gt) x h).2 (ix2 r c)
      = BitVec.ofNat 32 (order (row x r) (c.castLE hk)).val :=
  (slice_apply _ h hk r c).trans (sort_apply x (positions m n) r (c.castLE hk)).2

variable {lo hi p q : ℝ}

/-- A row whose entries at places 31 and 32 lie apart far enough has its threshold between them. -/
theorem gap_of_order (v : Fin n → EReal) {i j : Fin n} (hi31 : i.val = 31) (hj : j.val = 32) (h1 : v (order v i) = p) (h2 : v (order v j) = q)
    (hlo : ∀ k, (lo : EReal) ≤ v k) (hhi : ∀ k, v k ≤ hi) (hw : hi - lo + 1 < (p - q) * 2 ^ 26) : Gap v lo hi p q where
  lo_le := hlo
  le_hi := hhi
  wide := hw
  many := by
    have : ((Finset.univ.filter fun k : Fin n => k ≤ i).image (order v)).card ≤ _ := Finset.card_le_card (t := Finset.univ.filter fun k => (p : EReal) ≤ v k) (by
      intro k hk
      obtain ⟨a, ha, rfl⟩ := Finset.mem_image.mp hk
      simp only [Finset.mem_filter, Finset.mem_univ, true_and] at ha ⊢
      exact h1 ▸ order_anti v ha)
    rw [Finset.card_image_of_injective _ (order_injective v), show (Finset.univ.filter fun k : Fin n => k ≤ i) = Finset.Iic i by ext; simp, Fin.card_Iic, hi31] at this
    exact this
  few := by
    have : (Finset.univ.filter fun k => (q : EReal) < v k).card ≤ ((Finset.univ.filter fun k : Fin n => k < j).image (order v)).card := Finset.card_le_card (by
      intro k hk
      simp only [Finset.mem_filter, Finset.mem_univ, true_and] at hk
      obtain ⟨a, rfl⟩ := order_surjective v k
      refine Finset.mem_image_of_mem _ (Finset.mem_filter.mpr ⟨Finset.mem_univ _, ?_⟩)
      by_contra h
      exact absurd hk (not_lt.mpr (h2 ▸ order_anti v (not_lt.mp h))))
    rw [Finset.card_image_of_injective _ (order_injective v), show (Finset.univ.filter fun k : Fin n => k < j) = Finset.Iio j by ext; simp, Fin.card_Iio, hj] at this
    exact this

/-- The positions at the first 32 places are those whose entries exceed the one at place 32. -/
theorem mem_first_iff (v : Fin n → EReal) {i j : Fin n} (hi31 : i.val = 31) (hj : j.val = 32) (h : v (order v j) < v (order v i)) (hk : 32 ≤ n)
    (k : Fin n) : (∃ a : Fin 32, order v (a.castLE hk) = k) ↔ v (order v j) < v k := by
  constructor
  · rintro ⟨a, rfl⟩
    exact h.trans_le (order_anti v (Fin.le_def.mpr (by simp [hi31]; omega)))
  · intro hk'
    obtain ⟨a, rfl⟩ := order_surjective v k
    have ha : a < j := by
      by_contra h'
      exact absurd hk' (not_lt.mpr (order_anti v (not_lt.mp h')))
    exact ⟨⟨a.val, by have := Fin.lt_def.mp ha; omega⟩, rfl⟩

end Cert.TopK

end
-- ==== Proof.RefTerms.lean ====
/-
  The reference's results as functions of its arguments, and their entries.

  `hid` holds the encoder's values, `maskOf` one at each row's top-k positions and zero elsewhere, `outOf` what the mask keeps, and
  `reconOf` the decoder's values of that.
-/
module

public import proofs.«01_k».proof.Proof.Gen.ReferenceIdeal
public import proofs.«01_k».proof.Proof.TopK
public import Idealize.ShloMosaic.Lib.Routing.OpsPair
public import Idealize.ShloMosaic.Lib.Routing.OpsSet

@[expose] public section

set_option maxRecDepth 16384

noncomputable section

namespace Cert.ReferenceIdeal.Terms

open Idealize.ShloMosaic Cert.ReferenceIdeal Cert.ReferenceIdeal.Facts Cert.ReferenceIdeal.Gen Cert.TopK

variable (x : FVec Ideal S4096x1024 .f32) (w : FVec Ideal S16384x1024 .f32) (b : FVec Ideal S16384 .f32)
  (wd : FVec Ideal S1024x16384 .f32) (bd : FVec Ideal S1024 .f32) (h o : FVec Ideal S4096x16384 .f32)

/-- The encoder's values. -/
def hid : FVec Ideal S4096x16384 .f32 :=
  addf (Host.dotGeneral dot_S4096x1024_S1024x16384_S4096x16384_1_0_0_1_n_n none x (transpose S1024x16384 [1, 0] w transposes_S16384x1024_S1024x16384_1_0))
    (broadcastInDim S4096x16384 ![0, 1] bcast_S1x16384_S4096x16384_0_1 (broadcastInDim S1x16384 ![1] bcast_S16384_S1x16384_1 b))

/-- The words of the top-k positions. -/
def tops : IVec S4096x32 32 := (Host.topK S4096x32 1 (FloatOps.cmpfTotal .gt) h sliceFits_S4096x16384_S4096x32).2

/-- The row words beside the column words: where each top-k entry's one goes. -/
def places : IVec S4096x32x2 32 :=
  concatenate S4096x32x2 2 [⟨S4096x32x1, (broadcastInDim S4096x32x1 ![0, 1] bcast_S4096x32_S4096x32x1_0_1 (broadcastInDim S4096x32 ![0, 1] bcast_S4096x1_S4096x32_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩,
    ⟨S4096x32x1, (broadcastInDim S4096x32x1 ![0, 1] bcast_S4096x32_S4096x32x1_0_1 (select (cmpi .slt (tops h) (broadcastInDim S4096x32 ![] bcast_S_S4096x32 (constantI S_ 32 0#32))) (addi (tops h) (broadcastInDim S4096x32 ![] bcast_S_S4096x32 (constantI S_ 32 16384#32))) (tops h)))⟩] concatenates_S4096x32x1_S4096x32x1_S4096x32x2_d2

/-- One at each row's top-k positions, zero elsewhere. -/
def maskOf : FVec Ideal S4096x16384 .f32 :=
  Host.scatter scatter_S4096x16384_S4096x32x2_S4096x32_n_01_01_2 (fun _ b => b) (broadcastInDim S4096x16384 ![] bcast_S_S4096x16384 (constant S_ .f32 0x00000000#32))
    (places h) (broadcastInDim S4096x32 ![] bcast_S_S4096x32 (constant S_ .f32 0x3F800000#32))

/-- What the mask keeps, where it is positive. -/
def outOf : FVec Ideal S4096x16384 .f32 :=
  maximumf (mulf h (maskOf h)) (broadcastInDim S4096x16384 ![] bcast_S_S4096x16384 (constant S_ .f32 0x00000000#32))

/-- The decoder's values. -/
def reconOf : FVec Ideal S4096x1024 .f32 :=
  addf (Host.dotGeneral dot_S4096x16384_S16384x1024_S4096x1024_1_0_0_1_n_n none o (transpose S16384x1024 [1, 0] wd transposes_S1024x16384_S16384x1024_1_0))
    (broadcastInDim S4096x1024 ![0, 1] bcast_S1x1024_S4096x1024_0_1 (broadcastInDim S1x1024 ![1] bcast_S1024_S1x1024_1 bd))

/-- An encoder value is the row's inner product with its weights, plus the bias. -/
theorem hid_apply (r : Fin 4096) (j : Fin 16384) :
    hid x w b (ix2 r j) = (∑ k : Fin 1024, x (ix2 r k) * w (ix2 j k)) + b (ix1 j) := by
  unfold hid
  pointwise

/-- A decoder value is the row's inner product with its weights, plus the bias. -/
theorem reconOf_apply (r : Fin 4096) (d : Fin 1024) :
    reconOf wd bd o (ix2 r d) = (∑ k : Fin 16384, o (ix2 r k) * wd (ix2 d k)) + bd (ix1 d) := by
  unfold reconOf
  pointwise

/-- A word below half the range is the number it was made from. -/
theorem word_lt {a : ℕ} (ha : a < 16384) : (BitVec.ofNat 32 a).toNat = a ∧ (BitVec.ofNat 32 a).toInt = a := by
  have e : (BitVec.ofNat 32 a).toNat = a := by rw [BitVec.toNat_ofNat]; omega
  exact ⟨e, by rw [BitVec.toInt_eq_toNat_of_lt (by omega), e]⟩

/-- A place is its row's word and its position's word. -/
theorem places_apply (r : Fin 4096) (c : Fin 32) :
    places h (ix3 r c 0) = BitVec.ofNat 32 r.val
      ∧ places h (ix3 r c 1) = BitVec.ofNat 32 (order (row h r) (c.castLE (by decide))).val := by
  have e : tops h (ix2 r c) = _ := indices_apply h sliceFits_S4096x16384_S4096x32 (by decide) r c
  constructor
  · unfold places
    pointwise
    exact Routing.wrap_of_lt _ _ (by rw [(word_lt (by omega)).1]; omega)
  · unfold places
    pointwise
    rw [e]
    exact Routing.wrap_of_lt _ _ (by rw [(word_lt (Fin.isLt _)).1]; omega)

/-- A top-k entry's one goes to its row and its position. -/
theorem lands_iff (r r' : Fin 4096) (c : Fin 32) (j : Fin 16384) :
    scatter_S4096x16384_S4096x32x2_S4096x32_n_01_01_2.resultIdx? (ix2 r' c) (places h) = some (ix2 r j)
      ↔ r' = r ∧ order (row h r') (c.castLE (by decide)) = j := by
  rw [ix2_eq_valueIdx, ix2_eq_valueIdx, Routing.scatter_lands2 _ rfl rfl rfl, ← ix3_eq_valueIdx, ← ix3_eq_valueIdx, (places_apply h r' c).1,
    (places_apply h r' c).2, (word_lt (by omega)).2, (word_lt (Fin.isLt _)).2]
  simp only [Nat.cast_inj, Fin.val_inj]

/-- The mask is one at the top-k positions of its row and zero elsewhere. -/
theorem maskOf_hit (r : Fin 4096) (c : Fin 32) : maskOf h (ix2 r (order (row h r) (c.castLE (by decide)))) = 1 := by
  unfold maskOf
  refine Routing.scatter_set_hit _ _ _ _ _ 1 (fun k _ => ?_) (ix2 r c) ((lands_iff h r r c _).mpr ⟨rfl, rfl⟩)
  idx_vars k
  pointwise

theorem maskOf_miss (r : Fin 4096) (j : Fin 16384) (hj : ∀ c : Fin 32, order (row h r) (c.castLE (by decide)) ≠ j) : maskOf h (ix2 r j) = 0 := by
  unfold maskOf
  rw [Routing.scatter_set_miss _ _ _ _ _ (fun k => ?_)]
  · pointwise
  · rw [eq_ix2 k]
    intro e
    have := (lands_iff h r _ _ j).mp e
    exact hj _ (this.1 ▸ this.2)

/-- Where a row's entries at places 31 and 32 differ, the mask is one exactly where the entry exceeds the one at place 32. -/
theorem maskOf_apply (r : Fin 4096) (j : Fin 16384)
    (hlt : row h r (order (row h r) 32) < row h r (order (row h r) 31)) :
    maskOf h (ix2 r j) = if row h r (order (row h r) 32) < row h r j then 1 else 0 := by
  have e := mem_first_iff (row h r) (i := 31) (j := 32) rfl rfl hlt (by decide) j
  split_ifs with hj
  · obtain ⟨c, rfl⟩ := e.mpr hj
    exact maskOf_hit h r c
  · exact maskOf_miss h r j fun c hc => hj (e.mp ⟨c, hc⟩)

/-- The output is the entry times its mask, where that is positive. -/
theorem outOf_apply (r : Fin 4096) (j : Fin 16384) : outOf h (ix2 r j) = max (h (ix2 r j) * maskOf h (ix2 r j)) 0 := by
  unfold outOf
  pointwise

end Cert.ReferenceIdeal.Terms

end
-- ==== Proof.EncValue.lean ====
/- What the encoder's launch leaves in its output: each row's inner products with the weights, plus the bias. -/
module

public import proofs.«01_k».proof.Proof.EncBlock
public import proofs.«01_k».proof.Proof.RefTerms
public import Idealize.ShloMosaic.Lib.Pipeline.ValueKit.Geometry
public import Idealize.ShloMosaic.Lib.Pipeline.ValueKit.Acc

@[expose] public section

set_option maxRecDepth 16384

noncomputable section

namespace Cert.KernelIdeal.Enc

open Cert.KernelIdeal.Gen
open Idealize.ShloMosaic Idealize.ShloMosaic.TcCoe
open Idealize.ShloMosaic.Pipeline (Dat)

/-- An entry of a stored block. -/
theorem hBlock_apply (x : Vec Ideal S512x1024 .bf16) (w : Vec Ideal S1024x1024 .bf16) (b : Vec Ideal S1024 .f32) (r : Fin 512) (j : Fin 1024) :
    hBlock x w b (ix2 r j) = (∑ k : Fin 1024, x (ix2 r k) * w (ix2 j k)) + b (ix1 j) := by
  unfold hBlock rx rw rb
  frame_out
  unfold k0_pay1
  pointwise

/-- The windows' block indices at a point: the row block comes second, the column block first. -/
theorem index_0 : ∀ t : Fin cfg0.N, win0_0.index t = ![t.val % 8, 0] := (by decide +kernel : ∀ t : Fin grid0.N, _)
theorem index_1 : ∀ t : Fin cfg0.N, win0_1.index t = ![t.val / 8, 0] := (by decide +kernel : ∀ t : Fin grid0.N, _)
theorem index_2 : ∀ t : Fin cfg0.N, win0_2.index t = ![t.val / 8] := (by decide +kernel : ∀ t : Fin grid0.N, _)
theorem index_3 : ∀ t : Fin cfg0.N, win0_3.index t = ![t.val % 8, t.val / 8] := (by decide +kernel : ∀ t : Fin grid0.N, _)

section
variable (V : Dev nD → Valuation τ sig (Elt Ideal)) (c : Dev nD) (t : Fin cfg0.N)

/-- A point's row block and column block are in range. -/
theorem rows_lt (r : Fin 512) : t.val % 8 * 512 + r.val < 4096 := by omega
theorem cols_lt (j : Fin 1024) : t.val / 8 * 1024 + j.val < 16384 := by
  have := t.isLt
  have hN : cfg0.N = 128 := by decide
  omega

/-- The inputs' blocks at coordinates. -/
theorem blk_0 (x : FVec Ideal S4096x1024 .f32) (hx : V c main_v0 = x) (r : Fin 512) (k : Fin 1024) :
    (blkOf V c 0 t : Vec Ideal S512x1024 .bf16) (ix2 r k) = x (ix2 ⟨_, rows_lt t r⟩ k) := by
  subst hx
  show V c main_v0 ((win0_0.blk t).view.emb (ix2 r k)) = _
  congr 1
  blk_ext [index_0 t]

theorem blk_1 (w : FVec Ideal S16384x1024 .f32) (hw : V c main_v1 = w) (j k : Fin 1024) :
    (blkOf V c 1 t : Vec Ideal S1024x1024 .bf16) (ix2 j k) = w (ix2 ⟨_, cols_lt t j⟩ k) := by
  subst hw
  show V c main_v1 ((win0_1.blk t).view.emb (ix2 j k)) = _
  congr 1
  blk_ext [index_1 t]

theorem blk_2 (b : FVec Ideal S16384 .f32) (hb : V c main_arg2 = b) (j : Fin 1024) :
    (blkOf V c 2 t : Vec Ideal S1024 .f32) (ix1 j) = b (ix1 ⟨_, cols_lt t j⟩) := by
  subst hb
  show V c main_arg2 ((win0_2.blk t).view.emb (ix1 j)) = _
  congr 1
  blk_ext [index_2 t]

/-- The output's array is the encoder's values of the input arrays. -/
theorem out_eq (x : FVec Ideal S4096x1024 .f32) (w : FVec Ideal S16384x1024 .f32)
    (b : FVec Ideal S16384 .f32) (hx : V c main_v0 = x) (hw : V c main_v1 = w) (hb : V c main_arg2 = b) :
    (dat V c).arrAt 3 cfg0.N = ReferenceIdeal.Terms.hid x w b := by
  refine (dat V c).arrAt_eq_of_covers 3 _ (by decide +kernel) fun t hf y => ?_
  blk_simp
  rw [after_3]
  obtain ⟨r, j, rfl⟩ : ∃ (r : Fin 512) (j : Fin 1024), y = ix2 r j := ⟨y 0, y 1, eq_ix2 y⟩
  rw [show (win0_3.blk t).view.emb (ix2 r j) = ix2 ⟨_, rows_lt t r⟩ ⟨_, cols_lt t j⟩ by blk_ext [index_3 t], ReferenceIdeal.Terms.hid_apply]
  refine (hBlock_apply _ _ _ r j).trans ?_
  rw [blk_2 V c t b hb j]
  congr 1
  exact Finset.sum_congr rfl fun k _ => by rw [blk_0 V c t x hx r k, blk_1 V c t w hw j k]

end

end Cert.KernelIdeal.Enc

end
-- ==== Proof.SelChunks.lean ====
/-
  The chunk maxima of a block's rows, read at an index: each is an entry of its row, and the entries lie in different
  chunks of 128 lanes.
-/
module

public import proofs.«01_k».proof.Proof.SelSteps
public import proofs.«01_k».proof.Proof.Scalars
public import Idealize.ShloMosaic.Lib.Pipeline.ValueKit.Tiles

@[expose] public section

set_option maxRecDepth 16384

noncomputable section

namespace Cert.KernelIdeal.Sel

open Cert.KernelIdeal.Gen
open Idealize.ShloMosaic

/-- A chunk of 128 lanes lies inside the row. -/
theorem chunk_slices (c : Fin 128) : S128x16384.Slices ![0, 128 * c.val] S128x128 := by
  refine ⟨rfl, fun a => ?_⟩
  fin_cases a
  · show 0 + 128 ≤ 128
    omega
  · show 128 * c.val + 128 ≤ 16384
    omega

/-- The greatest entry of chunk `c` of each row. -/
def chunkCol (v : FVec Ideal S128x16384 .f32) (c : Fin 128) : FVec Ideal S128x1 .f32 :=
  shapeCast S128x1 (multiReduction .maximumf [1] S128 (extractStridedSlice S128x128 ![0, 128 * c.val] v (chunk_slices c))
    0xFF800000#32 reduces_S128x128_S128 (.inl rfl) rfl) shapeCasts_S128_S128x1

/-- 128 columns side by side make a matrix of 128 columns. -/
theorem cols_beside (f : Fin 128 → FVec Ideal S128x1 .f32) :
    Shape.Concatenates ((List.ofFn fun c => (⟨S128x1, f c⟩ : (s : Shape) × (s.Idx → EReal))).map (·.1)) S128x128 1 := by
  have e : ((List.ofFn fun c => (⟨S128x1, f c⟩ : (s : Shape) × (s.Idx → EReal))).map (·.1)) = List.replicate 128 S128x1 := by
    rw [List.map_ofFn]; rfl
  rw [e]; decide

/-- The matrix of chunk maxima is those columns side by side. -/
theorem chunkMax_cols (v0 : Vec Ideal S128x16384 .f32) :
    chunkMax v0 = concatenate S128x128 1 (List.ofFn fun c : Fin 128 => (⟨S128x1, chunkCol (k1_pay15 v0) c⟩ : (s : Shape) × (s.Idx → EReal)))
      (cols_beside _) := rfl

/-- The maximum of chunk `c` of row `r`. -/
theorem chunkMax_apply (v0 : Vec Ideal S128x16384 .f32) (r c : Fin 128) :
    chunkMax v0 (ix2 r c) = Finset.univ.fold max ⊥ fun k : Fin 128 => v0 (ix2 r ⟨128 * c.val + k.val, by omega⟩) := by
  rw [chunkMax_cols]
  refine concatenate_ofFn_unit_eq _ _ _ _ _ rfl rfl fun n i hn hi hb => ?_
  obtain rfl : c = n := Fin.ext hn
  have h0 := hb 0 (by decide)
  obtain rfl : i = ix2 r 0 := by
    rw [eq_ix2 i]
    congr 1
    · exact Fin.ext h0
    · exact Fin.ext hi
  pointwise [chunkCol, k1_pay15]
  rw [Scalars.least]

/-- The chunk maxima of a row are entries of the row at different lanes. -/
theorem chunkMax_entries (v0 : Vec Ideal S128x16384 .f32) (r : Fin 128) :
    ∃ f : Fin 128 → Fin 16384, Function.Injective f ∧ (fun c => chunkMax v0 (ix2 r c)) = (fun j => v0 (ix2 r j)) ∘ f := by
  choose k hk using fun c : Fin 128 => (Scalars.fold_max fun k : Fin 128 => v0 (ix2 r ⟨128 * c.val + k.val, by omega⟩)).1
  refine ⟨fun c => ⟨128 * c.val + (k c).val, by omega⟩, fun a b hab => ?_, funext fun c => ?_⟩
  · have := Fin.mk.inj hab
    exact Fin.ext (by omega)
  · exact (chunkMax_apply v0 r c).trans (hk c)

/-- No entry exceeds the maximum of its chunk. -/
theorem le_chunkMax (v0 : Vec Ideal S128x16384 .f32) (r : Fin 128) (j : Fin 16384) :
    v0 (ix2 r j) ≤ chunkMax v0 (ix2 r ⟨j.val / 128, by omega⟩) := by
  rw [chunkMax_apply]
  refine le_of_eq_of_le ?_ ((Scalars.fold_max _).2 ⟨j.val % 128, by omega⟩)
  congr 2
  exact Fin.ext (Nat.div_add_mod _ _).symm

end Cert.KernelIdeal.Sel

end
-- ==== Proof.SelRow.lean ====
/-
  The selection of a block at the extended reals, row by row: every vector step of the kernel is the halving of `Row` on
  each row, so that a row whose 32nd and 33rd greatest entries lie far enough apart ends with exactly 32 entries over its
  threshold.
-/
module

public import proofs.«01_k».proof.Proof.SelChunks
public import proofs.«01_k».proof.Proof.Row

@[expose] public section

set_option maxRecDepth 16384

noncomputable section

namespace Cert.KernelIdeal.Sel

open Cert.KernelIdeal.Gen Cert.Row
open Idealize.ShloMosaic

/-- Row `r` of a matrix of 128 rows. -/
def rowOf {n : ℕ} (v : FVec Ideal ⟨2, ![128, n]⟩ .f32) (r : Fin 128) : Fin n → EReal := fun j => v (ix2 r j)

/-- The printed count of a row's entries over a threshold is their number. -/
theorem count_eq {n : ℕ} (v : Fin n → EReal) (t : EReal) :
    ∑ j, FloatOps.sitofp (F := Ideal) .f32 (BitVec.setWidth 32 (BitVec.ofBool (decide (t < v j)))) = (((above v t : ℕ) : ℝ) : EReal) := by
  rw [EReal.coe_natCast, ← sum_above]
  exact Finset.sum_congr rfl fun j _ => Scalars.indicator _

/-- A count is at least 33 as a number of the kernel exactly when it is. -/
theorem ge_33 (n : ℕ) : ((33 : ℝ) : EReal) ≤ ((n : ℝ) : EReal) ↔ 33 ≤ n := by rw [EReal.coe_le_coe_iff]; norm_cast

/-- A count is 32 as a number of the kernel exactly when it is. -/
theorem eq_32 (n : ℕ) : ((n : ℝ) : EReal) = ((32 : ℝ) : EReal) ↔ n = 32 := by rw [EReal.coe_eq_coe_iff]; norm_cast

/-- A coarse halving of the block halves every row's interval. -/
theorem coarse_row (m : FVec Ideal S128x128 .f32) (s : FVec Ideal S128x1 .f32 × FVec Ideal S128x1 .f32) (r : Fin 128) :
    ((coarse m s).1 (ix2 r 0), (coarse m s).2 (ix2 r 0)) = halve (rowOf m r) (s.1 (ix2 r 0), s.2 (ix2 r 0)) := by
  have e : (fun x => m (ix2 r x)) = rowOf m r := rfl
  pointwise [coarse, many, k1_pay145]
  rw [count_eq (fun x => m (ix2 r x)), e, Scalars.half, Scalars.thirtyThree]
  simp only [ge_33]
  unfold halve mid
  split <;> rfl

/-- So do any number of coarse halvings. -/
theorem coarse_iterate_row (m : FVec Ideal S128x128 .f32) (n : ℕ) (s : FVec Ideal S128x1 .f32 × FVec Ideal S128x1 .f32) (r : Fin 128) :
    (((coarse m)^[n] s).1 (ix2 r 0), ((coarse m)^[n] s).2 (ix2 r 0)) = (halve (rowOf m r))^[n] (s.1 (ix2 r 0), s.2 (ix2 r 0)) := by
  induction n generalizing s with
  | zero => rfl
  | succ n ih => rw [Function.iterate_succ_apply, Function.iterate_succ_apply, ih, coarse_row]

/-- The lower ends after any number of coarse halvings: real, no lower than `z`, with at least 33 entries over each. -/
theorem coarse_low_row (m : FVec Ideal S128x128 .f32) (n : ℕ) (lo hi : FVec Ideal S128x1 .f32) (r : Fin 128) (z : ℝ)
    (h : Rough (rowOf m r) z (lo (ix2 r 0), hi (ix2 r 0))) :
    ∃ a : ℝ, ((coarse m)^[n] (lo, hi)).1 (ix2 r 0) = a ∧ z ≤ a ∧ 33 ≤ above (rowOf m r) a := by
  obtain ⟨a, b, e, ha, -, hm⟩ := h.iterate n
  exact ⟨a, congrArg Prod.fst ((coarse_iterate_row m n (lo, hi) r).trans e), ha, hm⟩

/-- The three vectors' entries at row `r`. -/
def at_ (s : Tri Ideal) (r : Fin 128) : EReal × EReal × EReal := (s.1 (ix2 r 0), s.2.1 (ix2 r 0), s.2.2 (ix2 r 0))

/-- A fine halving that is taken halves every unfinished row's interval. -/
theorem fine_row (v1 : FVec Ideal S128x16384 .f32) (s : Tri Ideal) (r : Fin 128) (hp : pending s.2.2 = 1#1)
    (hd : s.2.2 (ix2 r 0) = 1 ∨ s.2.2 (ix2 r 0) = 0) : at_ (fine v1 s) r = step (rowOf v1 r) (at_ s r) := by
  have e : (fun x => v1 (ix2 r x)) = rowOf v1 r := rfl
  obtain ⟨lo, hi, dn⟩ := s
  unfold fine
  rw [if_pos hp]
  unfold at_ step halve mid
  pointwise [k1_pay9, k1_pay10, k1_pay11, k1_pay8, k1_pay7, k1_pay6, k1_pay5, k1_pay4]
  rw [count_eq (fun x => v1 (ix2 r x)), e, Scalars.half, Scalars.thirtyThree, Scalars.thirtyTwo]
  simp only [ge_33, eq_32]
  have k1 : ((1 / 2 : ℝ) : EReal) < 1 := by rw [← EReal.coe_one, EReal.coe_lt_coe_iff]; norm_num
  have k0 : ¬ ((1 / 2 : ℝ) : EReal) < 0 := by rw [← EReal.coe_zero, EReal.coe_lt_coe_iff]; norm_num
  generalize ((1 / 2 : ℝ) : EReal) * (lo (ix2 r 0) + hi (ix2 r 0)) = T
  have one : FloatOps.sitofp (F := Ideal) .f32 (1#32) = (1 : EReal) := by
    show (((1#32 : BitVec 32).toInt : ℝ) : EReal) = 1
    simp
  have zero : FloatOps.sitofp (F := Ideal) .f32 (0#32) = (0 : EReal) := by
    show (((0#32 : BitVec 32).toInt : ℝ) : EReal) = 0
    simp
  rcases hd with hd | hd
  · have hd' : dn (ix2 r 0) = 1 := hd
    rw [hd', if_pos rfl, decide_eq_true k1]
    by_cases h : 33 ≤ above (rowOf v1 r) T <;> by_cases h' : above (rowOf v1 r) T = 32 <;>
      simp [h, h', one, Scalar.select, IntOp.andi, IntOp.xori, IntOp.ori]
  · have hd' : dn (ix2 r 0) = 0 := hd
    rw [hd', if_neg zero_ne_one, decide_eq_false k0]
    by_cases h : 33 ≤ above (rowOf v1 r) T <;> by_cases h' : above (rowOf v1 r) T = 32 <;>
      simp [h, h', one, zero, Scalar.select, IntOp.andi, IntOp.xori, IntOp.ori]

/-- A fine halving that is not taken finds every row finished. -/
theorem done_of_not_pending (dn : Vec Ideal S128x1 .f32) (h : pending dn ≠ 1#1) (r : Fin 128) : ((1 / 2 : ℝ) : EReal) < dn (ix2 r 0) := by
  have hlt : ((1 / 2 : ℝ) : EReal) < k1_pay3 dn := by
    by_contra hn
    apply h
    unfold pending
    have e : Scalar.cmpf .ogt (k1_pay3 dn) (Scalar.ofBits .f32 0x3F000000#32 : Ideal .f32) = 0#1 := by
      show BitVec.ofBool (decide (Ideal.ofBits .f32 0x3F000000#32 < k1_pay3 dn)) = 0#1
      rw [Scalars.half, decide_eq_false hn]; rfl
    rw [e]; rfl
  refine hlt.trans_le ?_
  pointwise [k1_pay3]
  rw [Scalars.greatest]
  have e : ∀ (s : Finset (Fin 128 × Fin 1)) (f : Fin 128 × Fin 1 → EReal) (i : Fin 128 × Fin 1), i ∈ s → s.fold min ⊤ f ≤ f i :=
    fun s f i hi => (show s.fold min ⊤ f = s.inf f from rfl) ▸ Finset.inf_le hi
  exact e _ _ (r, 0) (Finset.mem_univ _)

/-- The fine intervals of a row stay fine intervals whatever the other rows of the block do. -/
theorem tri_row (v0 : Vec Ideal S128x16384 .f32) (r : Fin 128) (w : ℝ) (h0 : Fine (rowOf v0 r) w 0 (at_ (tri0 v0) r)) (n : ℕ) :
    Fine (rowOf v0 r) w n (at_ (tri v0 n) r) := by
  induction n with
  | zero => exact h0
  | succ n ih =>
    have e : tri v0 (n + 1) = fine (k1_pay15 v0) (tri v0 n) := Function.iterate_succ_apply' _ _ _
    have e1 : rowOf (k1_pay15 v0) r = rowOf v0 r := by
      unfold rowOf; funext j; pointwise [k1_pay15]
    rw [e]
    by_cases hp : pending (tri v0 n).2.2 = 1#1
    · rw [fine_row _ _ _ hp ih.mark, e1]
      exact ih.step
    · have hd := done_of_not_pending _ hp r
      have h1 : (at_ (tri v0 n) r).2.2 = 1 := by
        rcases ih.mark with h | h
        · exact h
        · have h' : (tri v0 n).2.2 (ix2 r 0) = 0 := h
          rw [h', ← EReal.coe_zero, EReal.coe_lt_coe_iff] at hd
          norm_num at hd
      unfold fine
      rw [if_neg hp]
      exact ih.of_done h1 _

/-- Under a wide gap exactly 32 entries of the row exceed the row's threshold. -/
theorem thr_row (v0 : Vec Ideal S128x16384 .f32) (r : Fin 128) {lo hi p q : ℝ} (g : Gap (rowOf v0 r) lo hi p q) :
    above (rowOf v0 r) (thr v0 (ix2 r 0)) = 32 := by
  obtain ⟨f, hf, hcm⟩ := chunkMax_entries v0 r
  have hcm' : rowOf (chunkMax v0) r = rowOf v0 r ∘ f := hcm
  obtain ⟨⟨ct, ht⟩, hmax⟩ := Scalars.fold_max (rowOf (chunkMax v0) r)
  obtain ⟨⟨cb, hb⟩, hmin⟩ := Scalars.fold_min (rowOf (chunkMax v0) r)
  have top : rowTop (chunkMax v0) (ix2 r 0) = Finset.univ.fold max ⊥ (rowOf (chunkMax v0) r) := by
    pointwise [rowTop]
    rw [Scalars.least]; rfl
  have floor : rowFloor (chunkMax v0) (ix2 r 0) = Finset.univ.fold min ⊤ (rowOf (chunkMax v0) r) - 1 := by
    pointwise [rowFloor]
    rw [Scalars.greatest]; rfl
  obtain ⟨t, et⟩ := g.real (f ct)
  obtain ⟨b, eb⟩ := g.real (f cb)
  have ht' : rowTop (chunkMax v0) (ix2 r 0) = t := by rw [top, ht, hcm']; exact et
  have hbv : rowOf (chunkMax v0) r cb = b := by rw [hcm']; exact eb
  have hb' : rowFloor (chunkMax v0) (ix2 r 0) = ((b - 1 : ℝ) : EReal) := by
    rw [floor, hb, hbv, EReal.coe_sub, EReal.coe_one]
  have hbt : b ≤ t := by
    have := hmax cb
    rw [ht, hbv, hcm', Function.comp, et, EReal.coe_le_coe_iff] at this
    exact this
  have hlo : lo ≤ b := by have := g.lo_le (f cb); rw [eb, EReal.coe_le_coe_iff] at this; exact this
  have hhi : t ≤ hi := by have := g.le_hi (f ct); rw [et, EReal.coe_le_coe_iff] at this; exact this
  have rough : Rough (rowOf (chunkMax v0) r) (b - 1) (rowFloor (chunkMax v0) (ix2 r 0), rowTop (chunkMax v0) (ix2 r 0)) := by
    refine ⟨b - 1, t, by rw [ht', hb'], le_rfl, by linarith, ?_⟩
    have all : (Finset.univ.filter fun j => ((b - 1 : ℝ) : EReal) < rowOf (chunkMax v0) r j) = Finset.univ := by
      refine Finset.filter_true_of_mem fun j _ => ?_
      refine lt_of_lt_of_le (EReal.coe_lt_coe_iff.2 (by linarith : b - 1 < b)) ?_
      rw [← hbv, ← hb]; exact hmin j
    unfold above; rw [all]; simp
  obtain ⟨a, low, ha, hmany⟩ := coarse_low_row (chunkMax v0) 24 (rowFloor (chunkMax v0)) (rowTop (chunkMax v0)) r _ rough
  have start : at_ (tri0 v0) r = (↑a, ↑t, 0) := by
    unfold at_ tri0
    pointwise [k1_pay149, k1_pay1, k1_pay2]
    rw [ht']
    exact Prod.ext low rfl
  have fin0 : Fine (rowOf v0 r) (t - a) 0 (at_ (tri0 v0) r) := ?_
  · have e : thr v0 (ix2 r 0) = (at_ (tri v0 26) r).2.1 := by unfold thr at_; rfl
    rw [e]
    exact g.above_upper (tri_row v0 r _ fin0 26) (by linarith)
  rw [start]
  refine ⟨a, t, rfl, rfl, ?_, ?_, .inr ⟨rfl, by simp⟩⟩
  · rw [hcm'] at hmany
    exact hmany.trans (above_comp_le _ f hf _)
  · have none : (Finset.univ.filter fun j => (t : EReal) < rowOf v0 r j) = ∅ := by
      refine Finset.filter_false_of_mem fun j _ => not_lt.2 ?_
      refine (le_chunkMax v0 r j).trans ?_
      rw [← et]
      refine (hmax _).trans (le_of_eq ?_)
      rw [ht, hcm']; rfl
    unfold above; rw [none]; simp

/-- The block's mask at an entry: one where it exceeds the row's threshold, else zero. -/
theorem maskOf_apply (v0 : Vec Ideal S128x16384 .f32) (r : Fin 128) (j : Fin 16384) :
    maskOf v0 (ix2 r j) = if thr v0 (ix2 r 0) < v0 (ix2 r j) then 1 else 0 := by
  unfold maskOf
  pointwise [k1_pay13, k1_pay12, k1_pay15]
  exact Scalars.indicator _

/-- The block's selected activations: the positive part of the entry times its mask. -/
theorem keptOf_apply (v0 : Vec Ideal S128x16384 .f32) (r : Fin 128) (j : Fin 16384) :
    keptOf v0 (ix2 r j) = max (v0 (ix2 r j) * maskOf v0 (ix2 r j)) 0 := by
  rw [maskOf_apply]
  unfold keptOf
  pointwise [k1_pay14, k1_pay12, k1_pay15]
  by_cases h : thr v0 (ix2 r 0) < v0 (ix2 r j)
  · by_cases h0 : 0 < v0 (ix2 r j)
    · simp [h, h0, Scalar.select, IntOp.andi, h0.le]
    · simp [h, h0, Scalar.select, IntOp.andi, not_lt.1 h0]
  · simp [h, Scalar.select, IntOp.andi]

end Cert.KernelIdeal.Sel

end
-- ==== Proof.SelValue.lean ====
/- What the selection's launch leaves in its outputs: the reference's mask of its input, and what that keeps. -/
module

public import proofs.«01_k».proof.Proof.SelData
public import proofs.«01_k».proof.Proof.SelRow
public import proofs.«01_k».proof.Proof.RefTerms
public import Idealize.ShloMosaic.Lib.Pipeline.ValueKit.Geometry
public import Idealize.ShloMosaic.Lib.Pipeline.ValueKit.Acc

@[expose] public section

set_option maxRecDepth 16384

noncomputable section

namespace Cert.KernelIdeal.Sel

open Cert.KernelIdeal.Gen
open Idealize.ShloMosaic Idealize.ShloMosaic.TcCoe
open Idealize.ShloMosaic.Pipeline (Dat)
open Cert.Row Cert.TopK

/-- The windows' block index at a point: its block of rows. -/
theorem index_0 : ∀ t : Fin cfg1.N, win1_0.index t = ![t.val, 0] := (by decide +kernel : ∀ t : Fin grid1.N, _)
theorem index_1 : ∀ t : Fin cfg1.N, win1_1.index t = ![t.val, 0] := (by decide +kernel : ∀ t : Fin grid1.N, _)
theorem index_2 : ∀ t : Fin cfg1.N, win1_2.index t = ![t.val, 0] := (by decide +kernel : ∀ t : Fin grid1.N, _)

section
variable (V : Dev nD → Valuation τ sig (Elt Ideal)) (c : Dev nD) (t : Fin cfg1.N)

/-- A point's rows are in range. -/
theorem rows_lt (r : Fin 128) : t.val * 128 + r.val < 4096 := by
  have := t.isLt
  have hN : cfg1.N = 32 := by decide
  omega

/-- The input's block at coordinates. -/
theorem rowsAt_apply (h : FVec Ideal S4096x16384 .f32) (hh : V c main_v2 = h) (r : Fin 128) (j : Fin 16384) :
    rowsAt V c t (ix2 r j) = h (ix2 ⟨_, rows_lt t r⟩ j) := by
  subst hh
  refine (congrFun (View.ld_unit_lit (S := S128x16384) inb_S128x16384_S128x16384_0_0 (blkOf V c 0 t : Vec Ideal S128x16384 .f32) (by decide)) _).trans ?_
  show V c main_v2 ((win1_0.blk t).view.emb (ix2 r j)) = _
  congr 1
  blk_ext [index_0 t]

/-- Every row of `h` has its gap at place 32. -/
def Gaps (h : FVec Ideal S4096x16384 .f32) : Prop :=
  ∀ r : Fin 4096, ∃ lo hi p q : ℝ, row h r (order (row h r) 32) = q ∧ row h r (order (row h r) 31) = p ∧ Gap (row h r) lo hi p q

variable {V c t}

/-- The kernel's mask of a block of rows is the reference's mask of those rows. -/
theorem mask_eq {h : FVec Ideal S4096x16384 .f32} (hg : Gaps h) (hh : V c main_v2 = h) (r : Fin 128) (j : Fin 16384) :
    maskOf (rowsAt V c t) (ix2 r j) = ReferenceIdeal.Terms.maskOf h (ix2 ⟨_, rows_lt t r⟩ j) := by
  obtain ⟨lo, hi, p, q, hq, hp, g⟩ := hg ⟨_, rows_lt t r⟩
  have e : rowOf (rowsAt V c t) r = row h ⟨_, rows_lt t r⟩ := funext fun k => rowsAt_apply V c t h hh r k
  have ht := thr_row (rowsAt V c t) r (e ▸ g)
  rw [e] at ht
  have hqp : row h ⟨_, rows_lt t r⟩ (order (row h ⟨_, rows_lt t r⟩) 32) < row h ⟨_, rows_lt t r⟩ (order (row h ⟨_, rows_lt t r⟩) 31) := by
    rw [hq, hp]
    exact EReal.coe_lt_coe_iff.mpr (g.lt j)
  rw [maskOf_apply, ReferenceIdeal.Terms.maskOf_apply h _ j hqp, rowsAt_apply V c t h hh, hq]
  exact if_congr (above_eq_iff _ (ht.trans (g.above_q j).symm) j) rfl rfl

/-- What it keeps is what the reference keeps. -/
theorem kept_eq {h : FVec Ideal S4096x16384 .f32} (hg : Gaps h) (hh : V c main_v2 = h) (r : Fin 128) (j : Fin 16384) :
    keptOf (rowsAt V c t) (ix2 r j) = ReferenceIdeal.Terms.outOf h (ix2 ⟨_, rows_lt t r⟩ j) := by
  rw [keptOf_apply, ReferenceIdeal.Terms.outOf_apply, mask_eq hg hh, rowsAt_apply V c t h hh]

/-- The outputs' arrays. -/
theorem mask_arr {h : FVec Ideal S4096x16384 .f32} (hg : Gaps h) (hh : V c main_v2 = h) :
    (dat V c).arrAt 1 cfg1.N = ReferenceIdeal.Terms.maskOf h := by
  refine (dat V c).arrAt_eq_of_covers 1 _ (by decide +kernel) fun t hf y => ?_
  blk_simp
  rw [after_1]
  obtain ⟨r, j, rfl⟩ : ∃ (r : Fin 128) (j : Fin 16384), y = ix2 r j := ⟨y 0, y 1, eq_ix2 y⟩
  rw [show (win1_1.blk t).view.emb (ix2 r j) = ix2 ⟨_, rows_lt t r⟩ j by blk_ext [index_1 t]]
  exact mask_eq hg hh r j

theorem kept_arr {h : FVec Ideal S4096x16384 .f32} (hg : Gaps h) (hh : V c main_v2 = h) :
    (dat V c).arrAt 2 cfg1.N = ReferenceIdeal.Terms.outOf h := by
  refine (dat V c).arrAt_eq_of_covers 2 _ (by decide +kernel) fun t hf y => ?_
  blk_simp
  rw [after_2]
  obtain ⟨r, j, rfl⟩ : ∃ (r : Fin 128) (j : Fin 16384), y = ix2 r j := ⟨y 0, y 1, eq_ix2 y⟩
  rw [show (win1_2.blk t).view.emb (ix2 r j) = ix2 ⟨_, rows_lt t r⟩ j by blk_ext [index_2 t]]
  exact kept_eq hg hh r j

end

end Cert.KernelIdeal.Sel

end
-- ==== Proof.DecValue.lean ====
/- What the decoder's launch leaves in its output: each row's inner products with the weights, plus the bias. -/
module

public import proofs.«01_k».proof.Proof.DecData
public import proofs.«01_k».proof.Proof.RefTerms
public import Idealize.ShloMosaic.Lib.Pipeline.ArrRel
public import Idealize.ShloMosaic.Lib.Pipeline.ValueKit.Geometry
public import Idealize.ShloMosaic.Lib.Pipeline.ValueKit.Acc

@[expose] public section

set_option maxRecDepth 16384

noncomputable section

namespace Cert.KernelIdeal.Dec

open Cert.KernelIdeal.Gen
open Idealize.ShloMosaic Idealize.ShloMosaic.TcCoe
open Idealize.ShloMosaic.Pipeline (Dat RDat)

/-- One quarter's product at coordinates. -/
theorem pay1_apply (x : Vec Ideal S256x4096 .f32) (w : Vec Ideal S1024x4096 .bf16) (r : Fin 256) (d : Fin 1024) :
    k2_pay1 x w (ix2 r d) = ∑ k : Fin 4096, x (ix2 r k) * w (ix2 d k) := by
  unfold k2_pay1
  pointwise

theorem pay2_apply (x : Vec Ideal S256x4096 .f32) (w : Vec Ideal S1024x4096 .bf16) (r : Fin 256) (d : Fin 1024) :
    k2_pay2 x w (ix3 0 r d) = ∑ k : Fin 4096, x (ix2 r k) * w (ix2 d k) := by
  have e := pay1_apply x w r d
  unfold k2_pay2
  pointwise
  exact e

theorem pay3_apply (x : Vec Ideal S256x4096 .f32) (w : Vec Ideal S1024x4096 .bf16) (a : Vec Ideal S1x256x1024 .f32) (r : Fin 256) (d : Fin 1024) :
    k2_pay3 x w a (ix3 0 r d) = a (ix3 0 r d) + ∑ k : Fin 4096, x (ix2 r k) * w (ix2 d k) := by
  rw [← pay1_apply]
  unfold k2_pay3
  generalize k2_pay1 x w = p
  pointwise

theorem pay4_apply (a : Vec Ideal S1x256x1024 .f32) (b : Vec Ideal S1024 .f32) (r : Fin 256) (d : Fin 1024) :
    k2_pay4 a b (ix2 r d) = a (ix3 0 r d) + b (ix1 d) := by
  unfold k2_pay4
  pointwise

/-- The windows' block indices at a point. -/
theorem index_0 : ∀ t : Fin cfg2.N, win2_0.index t = ![t.val % 16, t.val / 16] := (by decide +kernel : ∀ t : Fin grid2.N, _)
theorem index_1 : ∀ t : Fin cfg2.N, win2_1.index t = ![0, t.val / 16] := (by decide +kernel : ∀ t : Fin grid2.N, _)
theorem index_2 : ∀ t : Fin cfg2.N, win2_2.index t = ![0] := (by decide +kernel : ∀ t : Fin grid2.N, _)
theorem index_3 : ∀ t : Fin cfg2.N, win2_3.index t = ![t.val % 16, 0] := (by decide +kernel : ∀ t : Fin grid2.N, _)

section
variable (V : Dev nD → Valuation τ sig (Elt Ideal)) (c : Dev nD) (t : Fin cfg2.N)

/-- A point's rows and quarter are in range. -/
theorem rows_lt (r : Fin 256) : t.val % 16 * 256 + r.val < 4096 := by omega
theorem lanes_lt (k : Fin 4096) : t.val / 16 * 4096 + k.val < 16384 := by
  have := t.isLt
  have hN : cfg2.N = 64 := by decide
  omega

/-- The inputs' blocks at coordinates. -/
theorem outIn_apply (o : FVec Ideal S4096x16384 .f32) (ho : V c main_v3_1 = o) (r : Fin 256) (k : Fin 4096) :
    outIn V c t (ix2 r k) = o (ix2 ⟨_, rows_lt t r⟩ ⟨_, lanes_lt t k⟩) := by
  subst ho
  refine (congrFun (View.ld_unit_lit (S := S256x4096) inb_S256x4096_S256x4096_0_0 (blkOf V c 0 t : Vec Ideal S256x4096 .f32) (by decide)) _).trans ?_
  show V c main_v3_1 ((win2_0.blk t).view.emb (ix2 r k)) = _
  congr 1
  blk_ext [index_0 t]

theorem wIn_apply (w : FVec Ideal S1024x16384 .f32) (hw : V c main_v4 = w) (d : Fin 1024) (k : Fin 4096) :
    wIn V c t (ix2 d k) = w (ix2 d ⟨_, lanes_lt t k⟩) := by
  subst hw
  refine (congrFun (View.ld_unit_lit (S := S1024x4096) inb_S1024x4096_S1024x4096_0_0 (blkOf V c 1 t : Vec Ideal S1024x4096 .bf16) (by decide)) _).trans ?_
  show V c main_v4 ((win2_1.blk t).view.emb (ix2 d k)) = _
  congr 1
  blk_ext [index_1 t]

theorem bIn_apply (b : FVec Ideal S1024 .f32) (hb : V c main_arg4 = b) (d : Fin 1024) :
    bIn V c t (ix1 d) = b (ix1 d) := by
  subst hb
  refine (congrFun (View.ld_unit_lit (S := S1024) inb_S1024_S1024_0 (blkOf V c 2 t : Vec Ideal S1024 .f32) (by decide)) _).trans ?_
  show V c main_arg4 ((win2_2.blk t).view.emb (ix1 d)) = _
  congr 1
  blk_ext [index_2 t]

/-- After the last quarter a slot holds the sum over the four quarters. -/
theorem acc_apply (s : ℕ) (r : Fin 256) (d : Fin 1024) :
    acc V c s 3 (ix3 0 r d) = ∑ f : Fin 4, ∑ k : Fin 4096, outIn V c (pt f.val s) (ix2 r k) * wIn V c (pt f.val s) (ix2 d k) := by
  rw [Fin.sum_univ_four, acc, pay3_apply, acc, pay3_apply, acc, pay3_apply, acc, pay2_apply]
  rfl

/-- The sum stored at a point of the last quarter is the decoder's value of its rows. -/
theorem sumOf_apply (o : FVec Ideal S4096x16384 .f32) (ho : V c main_v3_1 = o) (w : FVec Ideal S1024x16384 .f32) (hw : V c main_v4 = w)
    (b : FVec Ideal S1024 .f32) (hb : V c main_arg4 = b) (r : Fin 256) (d : Fin 1024) :
    sumOf V c t (ix2 r d) = ReferenceIdeal.Terms.reconOf w b o (ix2 ⟨_, rows_lt t r⟩ d) := by
  unfold sumOf
  rw [pay4_apply, acc_apply, bIn_apply V c t b hb, ReferenceIdeal.Terms.reconOf_apply]
  refine congrArg (· + b (ix1 d)) (Eq.trans ?_ (Fin.sum_mul_add_fin 4 4096 (fun l : Fin 16384 => o (ix2 ⟨_, rows_lt t r⟩ l) * w (ix2 d l)) (by norm_num)))
  refine Finset.sum_congr rfl fun f _ => Finset.sum_congr rfl fun k _ => ?_
  have e : (pt f.val (t.val % 16)).val = f.val * 16 + t.val % 16 := Nat.mod_eq_of_lt (by omega)
  rw [outIn_apply V c _ o ho, wIn_apply V c _ w hw]
  have e1 : (pt f.val (t.val % 16)).val % 16 = t.val % 16 := by omega
  have e2 : (pt f.val (t.val % 16)).val / 16 = f.val := by omega
  simp only [e1, e2]

/-- Row block `s` of the output is point `t`'s block exactly where `t` is a point of that block. -/
theorem mem_blk_iff (R : Fin 4096) (d : Fin 1024) :
    (ix2 R d : S4096x1024.Idx) ∈ (win2_3.blk t).view.set ↔ R.val / 256 = t.val % 16 := by
  mem_blk [index_3 t]
  have hd := d.isLt
  show (t.val % 16 * 256 ≤ R.val ∧ R.val < t.val % 16 * 256 + 256) ∧ 0 ≤ d.val ∧ d.val < 1024 ↔ _
  omega

/-- An array written by the points in turn, each point of the last quarter writing its sum, ends as the decoder's values. -/
theorem arr_of_last {D : Dat τ (Elt Ideal) Unit ℕ (UR sig nD τ) ℕ cfg2 c} (hD : ∀ t : Fin cfg2.N, 48 ≤ t.val → D.after 3 t = sumOf V c t)
    (o : FVec Ideal S4096x16384 .f32) (ho : V c main_v3_1 = o) (w : FVec Ideal S1024x16384 .f32) (hw : V c main_v4 = w)
    (b : FVec Ideal S1024 .f32) (hb : V c main_arg4 = b) (R : Fin 4096) (d : Fin 1024) :
    ∀ n, 49 + R.val / 256 ≤ n → n ≤ 64 → D.arrAt 3 n (ix2 R d) = ReferenceIdeal.Terms.reconOf w b o (ix2 R d) := by
  have hN : cfg2.N = 64 := by decide
  intro n hn
  induction n, hn using Nat.le_induction with
  | base =>
    intro _
    rw [show 49 + R.val / 256 = 48 + R.val / 256 + 1 by omega, D.arrAt_succ_apply, dif_pos (by omega), if_pos (flush2_3 _)]
    generalize ht : (⟨48 + R.val / 256, _⟩ : Fin cfg2.N) = t
    have hv : t.val = 48 + R.val / 256 := by rw [← ht]
    have e : (ix2 R d : S4096x1024.Idx) = (win2_3.blk t).view.emb (ix2 ⟨R.val % 256, by omega⟩ d) := by
      blk_ext [index_3 t]
      all_goals omega
    refine (congrArg ((win2_3.blk t).view.write (Elt Ideal) (D.arrAt 3 (48 + R.val / 256)) (D.flushed 3 t) Finset.univ) e).trans ?_
    refine (View.write_emb_of_mem _ _ (Finset.mem_univ _)).trans ?_
    blk_simp
    rw [hD t (by omega)]
    refine (sumOf_apply V c t o ho w hw b hb _ d).trans (congrArg _ ?_)
    rw [e]
    blk_ext [index_3 t]
  | succ n hn ih =>
    intro h64
    rw [D.arrAt_succ_apply, dif_pos (by omega), if_pos (flush2_3 _), View.write_of_not_mem]
    · exact ih (by omega)
    · rw [View.setOn_univ]
      refine fun hm => absurd ((mem_blk_iff _ R d).mp hm) ?_
      show R.val / 256 ≠ n % 16
      omega

/-- What the launch may leave in its output is the decoder's values. -/
theorem out_eq {G : FVec Ideal S4096x1024 .f32} (h : ((dat V c).toRRel fgt (Rl V c)).ArrAt 3 cfg2.N G)
    (o : FVec Ideal S4096x16384 .f32) (ho : V c main_v3_1 = o) (w : FVec Ideal S1024x16384 .f32) (hw : V c main_v4 = w)
    (b : FVec Ideal S1024 .f32) (hb : V c main_arg4 = b) : G = ReferenceIdeal.Terms.reconOf w b o := by
  have hN : cfg2.N = 64 := by decide
  obtain ⟨X, hX, hA⟩ := h.exists_exact
  have e := hA (Function.update (fun _ _ _ => Classical.arbitrary _) 3 X) fun u _ _ => by rw [Function.update_self]
  refine e.trans (funext fun i => ?_)
  obtain ⟨R, d, rfl⟩ : ∃ (R : Fin 4096) (d : Fin 1024), i = ix2 R d := ⟨i 0, i 1, eq_ix2 i⟩
  refine arr_of_last V c (fun t ht => ?_) o ho w hw b hb R d cfg2.N (by omega) (by omega)
  rw [RDat.withAfter_after, Function.update_self]
  exact (dat V c).toRRel_leaves (fgt := fgt) (Rl := Rl V c) (w := 3) rfl (hX t t.isLt (flush2_3 t)) ht

end

end Cert.KernelIdeal.Dec

end
-- ==== Proof.GapValue.lean ====
/-
  What the precondition says of each row of the encoder's values: they are real numbers, and the entries at places 31 and 32 in
  descending order lie apart by more than the row's spread plus one, over two to the 26.
-/
module

public import proofs.«01_k».proof.Proof.Gen.Pre_gap
public import proofs.«01_k».proof.Proof.RefTerms

@[expose] public section

set_option maxRecDepth 16384

noncomputable section

namespace Cert.Pre_gap

open Idealize.ShloMosaic Cert.TopK Cert.Row Cert.Scalars Cert.Pre_gap.Facts

variable (h : FVec Ideal S4096x16384 .f32)

/-- The values of the row's first places. -/
def firsts : FVec Ideal S4096x33 .f32 := (Host.topK S4096x33 1 (FloatOps.cmpfTotal .gt) h sliceFits_S4096x16384_S4096x33).1

/-- Each row's gap, scaled. -/
def scaled : FVec Ideal S4096 .f32 :=
  mulf (subf (shapeCast S4096 (extractStridedSlice S4096x1 ![0, 31] (firsts h) slices_S4096x33_S4096x1_0_31) shapeCasts_S4096x1_S4096)
    (shapeCast S4096 (extractStridedSlice S4096x1 ![0, 32] (firsts h) slices_S4096x33_S4096x1_0_32) shapeCasts_S4096x1_S4096))
    (broadcastInDim S4096 ![] bcast_S_S4096 (constant S_ .f32 0x4C800000#32))

/-- Each row's greatest and least entry. -/
def top : FVec Ideal S4096 .f32 :=
  Host.reduce FloatOps.maximumf h (constant S_ .f32 0xFF800000#32) reducesTo_S4096x16384_S4096_d1 h_S_

def bot : FVec Ideal S4096 .f32 :=
  Host.reduce FloatOps.minimumf h (constant S_ .f32 0x7F800000#32) reducesTo_S4096x16384_S4096_d1 h_S_

/-- Each row's spread, plus one. -/
def spread : FVec Ideal S4096 .f32 :=
  addf (subf (top h) (bot h)) (broadcastInDim S4096 ![] bcast_S_S4096 (constant S_ .f32 0x3F800000#32))

/-- The precondition is the conjunction of the rows' comparisons. -/
theorem fn_eq (x : FVec Ideal S4096x1024 .f32) (w : FVec Ideal S16384x1024 .f32) (b : FVec Ideal S16384 .f32)
    (wd : FVec Ideal S1024x16384 .f32) (bd : FVec Ideal S1024 .f32) :
    fn x w b wd bd = Host.reduce IntOp.andi (cmpf .ogt (scaled (ReferenceIdeal.Terms.hid x w b)) (spread (ReferenceIdeal.Terms.hid x w b)))
      (constantI S_ 1 1#1) reducesTo_S4096_S_d0 h_S_ := rfl

theorem scaled_apply (r : Fin 4096) :
    scaled h (ix1 r) = (row h r (order (row h r) 31) - row h r (order (row h r) 32)) * ((2 ^ 26 : ℝ) : EReal) := by
  have e31 : firsts h (ix2 r 31) = _ := values_apply h sliceFits_S4096x16384_S4096x33 (by decide) r 31
  have e32 : firsts h (ix2 r 32) = _ := values_apply h sliceFits_S4096x16384_S4096x33 (by decide) r 32
  unfold scaled
  pointwise
  rw [e31, e32, two26]
  rfl

theorem top_apply (r : Fin 4096) : top h (ix1 r) = Finset.univ.fold max ⊥ (row h r) := by
  unfold top
  pointwise
  rw [least]
  rfl

theorem bot_apply (r : Fin 4096) : bot h (ix1 r) = Finset.univ.fold min ⊤ (row h r) := by
  unfold bot
  pointwise
  rw [greatest]
  rfl

theorem spread_apply (r : Fin 4096) :
    spread h (ix1 r) = Finset.univ.fold max ⊥ (row h r) - Finset.univ.fold min ⊤ (row h r) + 1 := by
  have e : ∀ a b : FVec Ideal S4096 .f32, addf (subf a b) (broadcastInDim S4096 ![] bcast_S_S4096 (constant S_ .f32 0x3F800000#32)) (ix1 r)
      = a (ix1 r) - b (ix1 r) + 1 := by
    intro a b
    pointwise
  rw [← top_apply, ← bot_apply]
  exact e _ _

/-- A fold of conjunctions that comes to one has every word one. -/
theorem all_of_fold {ι : Type} [DecidableEq ι] (s : Finset ι) (f : ι → BitVec 1) (hs : s.fold IntOp.andi 1#1 f = 1#1) : ∀ i ∈ s, f i = 1#1 := by
  induction s using Finset.induction_on with
  | empty => intro i hi; simp at hi
  | insert a s ha ih =>
    rw [Finset.fold_insert ha] at hs
    have key : ∀ c d : BitVec 1, IntOp.andi c d = 1#1 → c = 1#1 ∧ d = 1#1 := by decide
    obtain ⟨h1, h2⟩ := key _ _ hs
    intro i hi
    rcases Finset.mem_insert.mp hi with rfl | hi
    · exact h1
    · exact ih h2 i hi

/-- A conjunction of the rows' words is one only if each is. -/
theorem all_of_reduce (a : IVec S4096 1)
    (ha : Host.reduce IntOp.andi a (constantI S_ 1 1#1) reducesTo_S4096_S_d0 h_S_ = fun _ => 1#1) (r : Fin 4096) : a (ix1 r) = 1#1 := by
  have := congrFun ha ix0
  revert this
  pointwise
  intro h
  exact all_of_fold Finset.univ (fun k => a (ix1 k)) h r (Finset.mem_univ r)

/-- The row's comparison, which the precondition makes hold. -/
theorem row_lt (hc : Host.reduce IntOp.andi (cmpf .ogt (scaled h) (spread h)) (constantI S_ 1 1#1) reducesTo_S4096_S_d0 h_S_ = fun _ => 1#1)
    (r : Fin 4096) :
    Finset.univ.fold max ⊥ (row h r) - Finset.univ.fold min ⊤ (row h r) + 1
      < (row h r (order (row h r) 31) - row h r (order (row h r) 32)) * ((2 ^ 26 : ℝ) : EReal) := by
  have e := all_of_reduce _ hc r
  rw [← spread_apply, ← scaled_apply]
  have key : ∀ a b : FVec Ideal S4096 .f32, cmpf .ogt a b (ix1 r) = BitVec.ofBool (decide (b (ix1 r) < a (ix1 r))) := fun _ _ => rfl
  rw [key] at e
  by_contra hn
  rw [decide_eq_false hn] at e
  exact absurd e (by decide)

/-- Under the precondition a row's entries are real numbers with a gap at place 32. -/
theorem gap_of_row {v : Fin 16384 → EReal}
    (hv : Finset.univ.fold max ⊥ v - Finset.univ.fold min ⊤ v + 1 < (v (order v 31) - v (order v 32)) * ((2 ^ 26 : ℝ) : EReal)) :
    ∃ lo hi p q : ℝ, v (order v 32) = q ∧ v (order v 31) = p ∧ Gap v lo hi p q := by
  have hM := (fold_max (n := 16383) v).2
  have hm := (fold_min (n := 16383) v).2
  have h1 := hM (order v 31)
  have h2 := hM (order v 32)
  have h3 := hm (order v 31)
  have h4 := hm (order v 32)
  have hmM : Finset.univ.fold min ⊤ v ≤ Finset.univ.fold max ⊥ v := h3.trans h1
  revert hv hM hm h1 h2 h3 h4 hmM
  generalize eM : Finset.univ.fold max ⊥ v = M
  generalize em : Finset.univ.fold min ⊤ v = m
  generalize eP : v (order v 31) = P
  generalize eQ : v (order v 32) = Q
  intro hv hM hm h1 h2 h3 h4 hmM
  have bot_mul : (⊥ : EReal) * ((2 ^ 26 : ℝ) : EReal) = ⊥ := EReal.bot_mul_coe_of_pos (by norm_num)
  have hMt : M ≠ ⊤ := by
    rintro rfl
    by_cases hmt : m = ⊤
    · subst hmt
      rw [top_le_iff.mp h3, top_le_iff.mp h4, EReal.sub_top, bot_mul] at hv
      exact not_lt_bot hv
    · rw [EReal.top_sub hmt, show (⊤ : EReal) + 1 = ⊤ from rfl] at hv
      exact not_top_lt hv
  have hmb : m ≠ ⊥ := by
    rintro rfl
    by_cases hMb : M = ⊥
    · subst hMb
      rw [le_bot_iff.mp h1, le_bot_iff.mp h2, EReal.bot_sub, bot_mul] at hv
      exact not_lt_bot hv
    · rw [EReal.sub_bot hMb, show (⊤ : EReal) + 1 = ⊤ from rfl] at hv
      exact not_top_lt hv
  have real : ∀ z, m ≤ z → z ≤ M → ∃ a : ℝ, z = a := fun z h h' =>
    ⟨z.toReal, (EReal.coe_toReal (fun e => hMt (top_le_iff.mp (e ▸ h'))) (fun e => hmb (le_bot_iff.mp (e ▸ h)))).symm⟩
  obtain ⟨M, rfl⟩ := real M hmM le_rfl
  obtain ⟨m, rfl⟩ := real m le_rfl hmM
  obtain ⟨P, rfl⟩ := real P h3 h1
  obtain ⟨Q, rfl⟩ := real Q h4 h2
  refine ⟨m, M, P, Q, rfl, rfl, gap_of_order v (i := 31) (j := 32) rfl rfl eP eQ hm hM ?_⟩
  exact_mod_cast hv

/-- Under the precondition every row of the encoder's values has its gap. -/
theorem gap_of_pre (x : FVec Ideal S4096x1024 .f32) (w : FVec Ideal S16384x1024 .f32) (b : FVec Ideal S16384 .f32)
    (wd : FVec Ideal S1024x16384 .f32) (bd : FVec Ideal S1024 .f32) (hp : fn x w b wd bd = fun _ => 1#1) (r : Fin 4096) :
    ∃ lo hi p q : ℝ, row (ReferenceIdeal.Terms.hid x w b) r (order (row (ReferenceIdeal.Terms.hid x w b) r) 32) = q
      ∧ row (ReferenceIdeal.Terms.hid x w b) r (order (row (ReferenceIdeal.Terms.hid x w b) r) 31) = p
      ∧ Gap (row (ReferenceIdeal.Terms.hid x w b) r) lo hi p q :=
  gap_of_row (row_lt _ ((fn_eq x w b wd bd).symm.trans hp) r)

end Cert.Pre_gap

end
-- ==== Proof.Equation.lean ====
/- The equation: what the program's three launches leave is what the reference computes. -/
module

public import proofs.«01_k».proof.Proof.Ends
public import proofs.«01_k».proof.Proof.EncValue
public import proofs.«01_k».proof.Proof.SelValue
public import proofs.«01_k».proof.Proof.DecValue
public import proofs.«01_k».proof.Proof.GapValue

@[expose] public section

noncomputable section

namespace Cert.KernelIdeal.Run

open Cert.KernelIdeal.Gen
open Idealize.ShloMosaic Idealize.ShloMosaic.TcCoe
open Idealize.SL.Sem
open Idealize.ShloMosaic.Pipeline (Dat RDat)
open Cert.ReferenceIdeal (Terms.hid Terms.maskOf Terms.outOf Terms.reconOf)

variable (m : (ℓ : Loc nD τ sig) → Buf (Elt Ideal) ℓ) (c : Dev nD)

/-- An argument as launched on the core. -/
abbrev arg (b : Ref sig .tc) : Buf (Elt Ideal) ((c.tc : Thread nD τ).loc b) := m ((c.tc : Thread nD τ).loc b)

/-! ## What each launch is given -/

/-- The encoder is given the activations and the weights as launched: their casts change nothing. -/
theorem W1_v0 : W1 m c main_v0 = arg m c main_arg0 := by
  show StableHlo.after hostOps0 (V0 m c) _ = _
  unfold hostOps0
  after_results_simp <;> rfl
theorem W1_v1 : W1 m c main_v1 = arg m c main_arg1 := by
  show StableHlo.after hostOps0 (V0 m c) _ = _
  unfold hostOps0
  after_results_simp <;> rfl

/-- The decoder is given its weights as launched. -/
theorem W4_v4 : W4 m c main_v4 = arg m c main_arg3 := by
  have e : W3 m c main_arg3 = arg m c main_arg3 := by
    refine (Pipeline.afterRegion_keeps (Sel.dat (W2 m) c) (W2 m c) winFacts1.arr_inj (fun _ => rfl) main_arg3 (by decide)).trans ?_
    refine (Pipeline.afterRegion_keeps (Enc.dat (W1 m) c) (W1 m c) winFacts0.arr_inj (fun _ => rfl) main_arg3 (by decide)).trans ?_
    exact V1_of m c main_arg3 (by decide)
  refine Eq.trans ?_ e
  unfold W4 hostOps2
  after_results_simp <;> rfl

/-! ## What each launch leaves -/

/-- The pre-activations the launched arguments give. -/
abbrev pre : FVec Ideal S4096x16384 .f32 := Terms.hid (arg m c main_arg0) (arg m c main_arg1) (arg m c main_arg2)

/-- The encoder leaves the pre-activations. -/
theorem pre_eq : W2 m c main_v2 = pre m c :=
  (W2_v2 m c).trans (Enc.out_eq (W1 m) c _ _ _ (W1_v0 m c) (W1_v1 m c) (V1_of m c main_arg2 (by decide)))

variable {m c} in
/-- The precondition gives each row its gap. -/
theorem gaps (h : Cert.Pre_gap.fn (F := Ideal) (arg m c main_arg0) (arg m c main_arg1) (arg m c main_arg2) (arg m c main_arg3) (arg m c main_arg4) = fun _ => 1#1) :
    Sel.Gaps (pre m c) :=
  Cert.Pre_gap.gap_of_pre _ _ _ _ _ h

variable (hg : Sel.Gaps (pre m c))
include hg

/-- The selection leaves the mask, -/
theorem mask_eq : (Sel.dat (W2 m) c).arrAt 1 cfg1.N = Terms.maskOf (pre m c) := Sel.mask_arr (V := W2 m) (c := c) hg (pre_eq m c)

/-- and the kept activations. -/
theorem kept_eq : (Sel.dat (W2 m) c).arrAt 2 cfg1.N = Terms.outOf (pre m c) := Sel.kept_arr (V := W2 m) (c := c) hg (pre_eq m c)

/-- The decoder leaves the reconstruction. -/
theorem recon_eq {G : FVec Ideal S4096x1024 .f32} (h : (rdats m 2 c).ArrAt 3 cfg2.N G) :
    G = Terms.reconOf (arg m c main_arg3) (arg m c main_arg4) (Terms.outOf (pre m c)) :=
  Dec.out_eq (W4 m) c h _ ((W4_out m c).trans (kept_eq m c hg)) _ (W4_v4 m c) _
    (W4_keeps m c main_arg4 (by decide) (by decide) (by decide) (by decide))

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_gap
public import proofs.«01_k».proof.Proof.Equation

@[expose] public section

noncomputable section

namespace Cert.Proof

open Idealize.ShloMosaic Idealize.SL.Sem
open Cert.KernelIdeal.Run (arg pre)
open Cert.ReferenceIdeal.Terms (reconOf outOf maskOf)

/-- The idealized program ends with its arguments as launched and every counter at zero. -/
theorem frame_ideal : Cert.quiescent_KernelIdeal := fun m ρ _ =>
  (θ_run Cert.KernelIdeal.defs _ _).mono (fun _ h => ⟨fun c => (h.1 c).2, h.2⟩) (Cert.KernelIdeal.Run.run_ends m ρ)

section
variable {F : FTy → Type} [FloatOps F]

set_option maxHeartbeats 2000000 in
/-- The printed program and the idealized one have the same kernels, -/
theorem bodies_eq : Cert.Kernel.defs₀ (F := F) = Cert.KernelIdeal.defs₀ (F := F) := by
  unfold Cert.Kernel.defs₀ Cert.KernelIdeal.defs₀
  refine congrArg Defs.onTc ?_
  funext l a
  match l with
  | 0 => rfl
  | 1 => rfl
  | 2 => rfl

/-- and the same launches of them. -/
theorem defs_eq : Cert.Kernel.defs (F := F) = Cert.KernelIdeal.defs (F := F) :=
  congrArg (Pipeline.defs Cert.KernelIdeal.pcfgs) bodies_eq

end

/-- The printed program ends with its arguments as launched and every counter at zero: it is the idealized program at another number type. -/
theorem frame_kernel : Cert.quiescent_Kernel := fun m ρ _ => by
  have h := (θ_run (Cert.KernelIdeal.defs (F := Bits)) _ _).mono (fun r h => (⟨fun c => (h.1 c).2, h.2⟩ : _ ∧ _))
    (Cert.KernelIdeal.Run.run_ends (F := Bits) m ρ)
  rw [← defs_eq] at h
  exact h

/-- The reference ends with its arguments as launched and every counter at zero. -/
theorem frame_reference : Cert.quiescent_ReferenceIdeal := fun m ρ _ =>
  (θ_run Cert.ReferenceIdeal.defs _ _).mono (fun r h => ⟨fun c => (h c).2.2.2, funext fun g => nomatch g.2⟩)
    (Cert.ReferenceIdeal.Value.run (F := Ideal) m ρ)

/-- At exact numbers, where each row's gap is wide enough, the two runs leave the same three results: the reconstruction, the kept
    activations and the mask. -/
theorem equation : Cert.algebraic_KernelIdeal_ReferenceIdeal_pre_gap := by
  intro m g m' g' hp ha
  have hg (c : Dev Cert.KernelIdeal.nD) := Cert.KernelIdeal.Run.gaps (hp c)
  refine ⟨fun c => reconOf (arg m c Cert.KernelIdeal.main_arg3) (arg m c Cert.KernelIdeal.main_arg4) (outOf (pre m c)),
    fun c => outOf (pre m c), fun c => maskOf (pre m c), (θ_run Cert.KernelIdeal.defs _ _).mono (fun r h c => ?_) (Cert.KernelIdeal.Run.run_ends m g),
    (θ_run Cert.ReferenceIdeal.defs _ _).mono (fun r h c => ?_) (Cert.ReferenceIdeal.Value.run (F := Ideal) m' g')⟩
  · obtain ⟨⟨h5, h1, h0⟩, hk⟩ := h.1 c
    exact ⟨Cert.KernelIdeal.Run.recon_eq m c (hg c) h5, h1.trans (Cert.KernelIdeal.Run.kept_eq m c (hg c)),
      h0.trans (Cert.KernelIdeal.Run.mask_eq m c (hg c)), hk⟩
  · obtain ⟨a0, a1, a2, a3, a4⟩ := ha c
    obtain ⟨r0, r1, r2, hk⟩ := h c
    rw [a0, a1, a2] at r0 r1 r2
    rw [a3, a4] at r0
    exact ⟨r0, r1, r2, hk⟩

theorem claim : Cert.Claim :=
  ⟨Cert.Kernel.Gen.facts, Cert.KernelIdeal.Gen.facts, Cert.ReferenceIdeal.Gen.facts, Cert.Pre_gap.Gen.facts,
    frame_kernel, frame_ideal, fun m ρ _ => frame_ideal m ρ trivial, frame_reference, fun m ρ _ => frame_reference m ρ trivial, trivial, equation⟩

end Cert.Proof

end
